-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)

variable [Facts]

def fn {F : FTy → Type} [FloatOps F] (main_arg0 : FVec F S4x4096x3 .f32) (main_arg1 : FVec F S4x4096x3 .f32) (main_arg2 : FVec F S4x4096x3 .f32) : IVec S4x4096x3 1 :=
  let main_v0 : FVec F S4x4096x3 .f32 := Host.absf main_arg0
  let main_cst : FVec F S_ .f32 := constant S_ .f32 0x56B5E621#32
  let main_v1 : FVec F S4x4096x3 .f32 := broadcastInDim S4x4096x3 ![] bcast_S_S4x4096x3 main_cst
  let main_v2 : IVec S4x4096x3 1 := cmpf .ole main_v0 main_v1
  let main_v3 : FVec F S4x4096x3 .f32 := Host.absf main_arg1
  let main_cst_0 : FVec F S_ .f32 := constant S_ .f32 0x56B5E621#32
  let main_v4 : FVec F S4x4096x3 .f32 := broadcastInDim S4x4096x3 ![] bcast_S_S4x4096x3 main_cst_0
  let main_v5 : IVec S4x4096x3 1 := cmpf .ole main_v3 main_v4
  let main_v6 : IVec S4x4096x3 1 := andi main_v2 main_v5
  let main_v7 : FVec F S4x4096x3 .f32 := Host.absf main_arg2
  let main_cst_1 : FVec F S_ .f32 := constant S_ .f32 0x56B5E621#32
  let main_v8 : FVec F S4x4096x3 .f32 := broadcastInDim S4x4096x3 ![] bcast_S_S4x4096x3 main_cst_1
  let main_v9 : IVec S4x4096x3 1 := cmpf .ole main_v7 main_v8
  let main_v10 : IVec S4x4096x3 1 := andi main_v6 main_v9
  main_v10
-- ==== Kernel.lean ====
abbrev S4x4096x3 : Shape := ⟨3, ![4, 4096, 3]⟩
abbrev S4x3x4096 : Shape := ⟨3, ![4, 3, 4096]⟩
abbrev S4x4096x1 : Shape := ⟨3, ![4, 4096, 1]⟩
abbrev S_ : Shape := ⟨0, ![]⟩
abbrev S1x128x3 : Shape := ⟨3, ![1, 128, 3]⟩
abbrev S1x3x4096 : Shape := ⟨3, ![1, 3, 4096]⟩
abbrev S1x3x128 : Shape := ⟨3, ![1, 3, 128]⟩
abbrev S128x4096 : Shape := ⟨2, ![128, 4096]⟩
abbrev S128x3 : Shape := ⟨2, ![128, 3]⟩
abbrev S3x4096 : Shape := ⟨2, ![3, 4096]⟩
abbrev S128x1 : Shape := ⟨2, ![128, 1]⟩
abbrev S1x4096 : Shape := ⟨2, ![1, 4096]⟩
abbrev S128 : Shape := ⟨1, ![128]⟩
abbrev S1x128 : Shape := ⟨2, ![1, 128]⟩
abbrev S3x128 : Shape := ⟨2, ![3, 128]⟩
abbrev S1x128x1 : Shape := ⟨3, ![1, 128, 1]⟩

abbrev nBuf : Space → Nat
  | .hbm => 14
  | .vmem => 26
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S4x4096x3, .f32⟩
  | .hbm, ⟨4, _⟩ => ⟨S4x3x4096, .f32⟩
  | .hbm, ⟨5, _⟩ => ⟨S4x3x4096, .f32⟩
  | .hbm, ⟨6, _⟩ => ⟨S4x3x4096, .f32⟩
  | .hbm, ⟨7, _⟩ => ⟨S4x3x4096, .f32⟩
  | .hbm, ⟨8, _⟩ => ⟨S4x3x4096, .f32⟩
  | .hbm, ⟨9, _⟩ => ⟨S4x4096x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x128x3, .f32⟩
  | .local _ .vmem, ⟨1, _⟩ => ⟨S1x128x3, .f32⟩
  | .local _ .vmem, ⟨2, _⟩ => ⟨S1x3x4096, .f32⟩
  | .local _ .vmem, ⟨3, _⟩ => ⟨S1x3x4096, .f32⟩
  | .local _ .vmem, ⟨4, _⟩ => ⟨S1x128x3, .f32⟩
  | .local _ .vmem, ⟨5, _⟩ => ⟨S1x128x3, .f32⟩
  | .local _ .vmem, ⟨6, _⟩ => ⟨S1x3x4096, .f32⟩
  | .local _ .vmem, ⟨7, _⟩ => ⟨S1x3x4096, .f32⟩
  | .local _ .vmem, ⟨8, _⟩ => ⟨S1x128x3, .f32⟩
  | .local _ .vmem, ⟨9, _⟩ => ⟨S1x128x3, .f32⟩
  | .local _ .vmem, ⟨10, _⟩ => ⟨S1x3x4096, .f32⟩
  | .local _ .vmem, ⟨11, _⟩ => ⟨S1x3x4096, .f32⟩
  | .local _ .vmem, ⟨12, _⟩ => ⟨S1x3x128, .f32⟩
  | .local _ .vmem, ⟨13, _⟩ => ⟨S1x3x128, .f32⟩
  | .local _ .vmem, ⟨14, _⟩ => ⟨S1x3x128, .f32⟩
  | .local _ .vmem, ⟨15, _⟩ => ⟨S1x3x128, .f32⟩
  | .local _ .vmem, ⟨16, _⟩ => ⟨S1x128x3, .f32⟩
  | .local _ .vmem, ⟨17, _⟩ => ⟨S1x128x3, .f32⟩
  | .local _ .vmem, ⟨18, _⟩ => ⟨S1x3x4096, .f32⟩
  | .local _ .vmem, ⟨19, _⟩ => ⟨S1x3x4096, .f32⟩
  | .local _ .vmem, ⟨20, _⟩ => ⟨S1x3x4096, .f32⟩
  | .local _ .vmem, ⟨21, _⟩ => ⟨S1x3x4096, .f32⟩
  | .local _ .vmem, ⟨22, _⟩ => ⟨S1x3x128, .f32⟩
  | .local _ .vmem, ⟨23, _⟩ => ⟨S1x3x128, .f32⟩
  | .local _ .vmem, ⟨24, _⟩ => ⟨S1x128x1, .f32⟩
  | .local _ .vmem, ⟨25, _⟩ => ⟨S1x128x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4_0 : Ref sig .tc := ⟨.hbm, 7, rfl⟩
abbrev main_call0_v4_1 : Ref sig .tc := ⟨.hbm, 8, rfl⟩
abbrev main_call0_v5 : Ref sig .tc := ⟨.hbm, 9, rfl⟩
abbrev main_call0_cst : Ref sig .tc := ⟨.hbm, 10, rfl⟩
abbrev main_call0_v6 : Ref sig .tc := ⟨.hbm, 11, rfl⟩
abbrev main_call0_cst_0 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x3x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x3x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4x4096x3 : Shape := ⟨3, ![4, 4096, 3]⟩
abbrev S4x3x4096 : Shape := ⟨3, ![4, 3, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x4096x10 : Shape := ⟨3, ![4, 4096, 10]⟩
abbrev S4x4096x10x1 : Shape := ⟨4, ![4, 4096, 10, 1]⟩
abbrev S4x4096x10x3 : Shape := ⟨4, ![4, 4096, 10, 3]⟩
abbrev S4x4096x1x3 : Shape := ⟨4, ![4, 4096, 1, 3]⟩
abbrev S4x4096x5 : Shape := ⟨3, ![4, 4096, 5]⟩
abbrev S4x4096x5x1 : Shape := ⟨4, ![4, 4096, 5, 1]⟩
abbrev S4x4096x5x3 : Shape := ⟨4, ![4, 4096, 5, 3]⟩
abbrev S4 : Shape := ⟨1, ![4]⟩

abbrev nBuf : Space → Nat
  | .hbm => 165
  | .vmem => 0
  | .smem => 0
  | _ => 0

abbrev hbmTy0_0 (i : Nat) : BufTy := match i % 128 with
  | 0 => ⟨S4x4096x3, .f32⟩
  | 1 => ⟨S4x4096x3, .f32⟩
  | 2 => ⟨S4x4096x3, .f32⟩
  | 3 => ⟨S4x3x4096, .f32⟩
  | 4 => ⟨S4x3x4096, .f32⟩
  | 5 => ⟨S4x3x4096, .f32⟩
  | 6 => ⟨S4x3x4096, .f32⟩
  | 7 => ⟨S4x4096x3, .f32⟩
  | 8 => ⟨S4x4096x3, .f32⟩
  | 9 => ⟨S_, .f32⟩
  | 10 => ⟨S4x4096, .f32⟩
  | 11 => ⟨S4x4096x1, .f32⟩
  | 12 => ⟨S4x4096x3, .f32⟩
  | 13 => ⟨S_, .f32⟩
  | 14 => ⟨S4x4096, .f32⟩
  | 15 => ⟨S4x1x4096, .f32⟩
  | 16 => ⟨S4x4096x4096, .f32⟩
  | 17 => ⟨S4x4096x4096, .f32⟩
  | 18 => ⟨S4x4096x4096, .f32⟩
  | 19 => ⟨S4x4096x4096, .f32⟩
  | 20 => ⟨S_, .f32⟩
  | 21 => ⟨S4x4096x4096, .f32⟩
  | 22 => ⟨S4x4096x4096, .f32⟩
  | 23 => ⟨S4x4096x4096, .f32⟩
  | 24 => ⟨S4x4096x4096, .f32⟩
  | 25 => ⟨S4x4096x10, .f32⟩
  | 26 => ⟨S4x4096x10, .i32⟩
  | 27 => ⟨S4x4096x10, .f32⟩
  | 28 => ⟨S_, .f32⟩
  | 29 => ⟨S4x4096x10, .f32⟩
  | 30 => ⟨S4x4096x10, .i1⟩
  | 31 => ⟨S4x4096x1, .i32⟩
  | 32 => ⟨S4x4096x10, .i32⟩
  | 33 => ⟨S4x4096x10, .i32⟩
  | 34 => ⟨S_, .i32⟩
  | 35 => ⟨S4x4096x10, .i32⟩
  | 36 => ⟨S4x4096x10, .i1⟩
  | 37 => ⟨S_, .i32⟩
  | 38 => ⟨S4x4096x10, .i32⟩
  | 39 => ⟨S4x4096x10, .i32⟩
  | 40 => ⟨S4x4096x10, .i32⟩
  | 41 => ⟨S4x4096x10x1, .i32⟩
  | 42 => ⟨S4x4096x10x3, .f32⟩
  | 43 => ⟨S4x4096x1x3, .f32⟩
  | 44 => ⟨S4x4096x10x3, .f32⟩
  | 45 => ⟨S4x4096x10x3, .f32⟩
  | 46 => ⟨S_, .f32⟩
  | 47 => ⟨S4x4096x3, .f32⟩
  | 48 => ⟨S_, .f32⟩
  | 49 => ⟨S4x4096x3, .f32⟩
  | 50 => ⟨S4x4096x3, .f32⟩
  | 51 => ⟨S4x4096x3, .f32⟩
  | 52 => ⟨S4x4096x3, .f32⟩
  | 53 => ⟨S4x4096x3, .f32⟩
  | 54 => ⟨S_, .f32⟩
  | 55 => ⟨S4x4096, .f32⟩
  | 56 => ⟨S4x4096x1, .f32⟩
  | 57 => ⟨S4x4096x3, .f32⟩
  | 58 => ⟨S_, .f32⟩
  | 59 => ⟨S4x4096, .f32⟩
  | 60 => ⟨S4x1x4096, .f32⟩
  | 61 => ⟨S4x4096x4096, .f32⟩
  | 62 => ⟨S4x4096x4096, .f32⟩
  | 63 => ⟨S4x4096x4096, .f32⟩
  | 64 => ⟨S4x4096x4096, .f32⟩
  | 65 => ⟨S_, .f32⟩
  | 66 => ⟨S4x4096x4096, .f32⟩
  | 67 => ⟨S4x4096x4096, .f32⟩
  | 68 => ⟨S4x4096x4096, .f32⟩
  | 69 => ⟨S4x4096x4096, .f32⟩
  | 70 => ⟨S4x4096x10, .f32⟩
  | 71 => ⟨S4x4096x10, .i32⟩
  | 72 => ⟨S4x4096x10, .f32⟩
  | 73 => ⟨S_, .f32⟩
  | 74 => ⟨S4x4096x10, .f32⟩
  | 75 => ⟨S4x4096x10, .i1⟩
  | 76 => ⟨S4x4096x1, .i32⟩
  | 77 => ⟨S4x4096x10, .i32⟩
  | 78 => ⟨S4x4096x10, .i32⟩
  | 79 => ⟨S_, .i32⟩
  | 80 => ⟨S4x4096x10, .i32⟩
  | 81 => ⟨S4x4096x10, .i1⟩
  | 82 => ⟨S_, .i32⟩
  | 83 => ⟨S4x4096x10, .i32⟩
  | 84 => ⟨S4x4096x10, .i32⟩
  | 85 => ⟨S4x4096x10, .i32⟩
  | 86 => ⟨S4x4096x10x1, .i32⟩
  | 87 => ⟨S4x4096x10x3, .f32⟩
  | 88 => ⟨S4x4096x1x3, .f32⟩
  | 89 => ⟨S4x4096x10x3, .f32⟩
  | 90 => ⟨S4x4096x10x3, .f32⟩
  | 91 => ⟨S_, .f32⟩
  | 92 => ⟨S4x4096x3, .f32⟩
  | 93 => ⟨S_, .f32⟩
  | 94 => ⟨S4x4096x3, .f32⟩
  | 95 => ⟨S4x4096x3, .f32⟩
  | 96 => ⟨S4x4096x3, .f32⟩
  | 97 => ⟨S4x4096x3, .f32⟩
  | 98 => ⟨S4x4096x3, .f32⟩
  | 99 => ⟨S_, .f32⟩
  | 100 => ⟨S4x4096, .f32⟩
  | 101 => ⟨S4x4096x1, .f32⟩
  | 102 => ⟨S4x4096x3, .f32⟩
  | 103 => ⟨S_, .f32⟩
  | 104 => ⟨S4x4096, .f32⟩
  | 105 => ⟨S4x1x4096, .f32⟩
  | 106 => ⟨S4x4096x4096, .f32⟩
  | 107 => ⟨S4x4096x4096, .f32⟩
  | 108 => ⟨S4x4096x4096, .f32⟩
  | 109 => ⟨S4x4096x4096, .f32⟩
  | 110 => ⟨S_, .f32⟩
  | 111 => ⟨S4x4096x4096, .f32⟩
  | 112 => ⟨S4x4096x4096, .f32⟩
  | 113 => ⟨S4x4096x4096, .f32⟩
  | 114 => ⟨S4x4096x4096, .f32⟩
  | 115 => ⟨S4x4096x5, .f32⟩
  | 116 => ⟨S4x4096x5, .i32⟩
  | 117 => ⟨S4x4096x5, .f32⟩
  | 118 => ⟨S_, .f32⟩
  | 119 => ⟨S4x4096x5, .f32⟩
  | 120 => ⟨S4x4096x5, .i1⟩
  | 121 => ⟨S4x4096x1, .i32⟩
  | 122 => ⟨S4x4096x5, .i32⟩
  | 123 => ⟨S4x4096x5, .i32⟩
  | 124 => ⟨S_, .i32⟩
  | 125 => ⟨S4x4096x5, .i32⟩
  | 126 => ⟨S4x4096x5, .i1⟩
  | 127 => ⟨S_, .i32⟩
  | _ => ⟨S4x4096x3, .f32⟩

abbrev hbmTy0_1 (i : Nat) : BufTy := match i % 128 with
  | 0 => ⟨S4x4096x5, .i32⟩
  | 1 => ⟨S4x4096x5, .i32⟩
  | 2 => ⟨S4x4096x5, .i32⟩
  | 3 => ⟨S4x4096x5x1, .i32⟩
  | 4 => ⟨S4x4096x5x3, .f32⟩
  | 5 => ⟨S_, .f32⟩
  | 6 => ⟨S4x4096x5, .f32⟩
  | 7 => ⟨S4x4096x5, .f32⟩
  | 8 => ⟨S_, .f32⟩
  | 9 => ⟨S4x4096x5, .f32⟩
  | 10 => ⟨S4x4096x5, .f32⟩
  | 11 => ⟨S_, .f32⟩
  | 12 => ⟨S4x4096, .f32⟩
  | 13 => ⟨S4x4096x1, .f32⟩
  | 14 => ⟨S_, .f32⟩
  | 15 => ⟨S4x4096x5, .f32⟩
  | 16 => ⟨S4x4096x5, .f32⟩
  | 17 => ⟨S_, .f32⟩
  | 18 => ⟨S4x4096x5, .f32⟩
  | 19 => ⟨S4x4096x5, .f32⟩
  | 20 => ⟨S4x4096x5, .f32⟩
  | 21 => ⟨S4x4096x5, .f32⟩
  | 22 => ⟨S4x4096x5x1, .f32⟩
  | 23 => ⟨S4x4096x5x3, .f32⟩
  | 24 => ⟨S4x4096x5x3, .f32⟩
  | 25 => ⟨S_, .f32⟩
  | 26 => ⟨S4x4096x3, .f32⟩
  | 27 => ⟨S4x4096x3, .f32⟩
  | 28 => ⟨S4x4096x3, .f32⟩
  | 29 => ⟨S_, .f32⟩
  | 30 => ⟨S4x4096, .f32⟩
  | 31 => ⟨S_, .f32⟩
  | 32 => ⟨S4, .f32⟩
  | 33 => ⟨S_, .f32⟩
  | 34 => ⟨S_, .f32⟩
  | 35 => ⟨S_, .f32⟩
  | 36 => ⟨S_, .f32⟩
  | _ => ⟨S4x4096x3, .f32⟩

abbrev hbmTy (i : Nat) : BufTy := match i / 128 with
  | 0 => hbmTy0_0 i
  | 1 => hbmTy0_1 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_values : Ref sig .tc := ⟨.hbm, 25, rfl⟩
abbrev main_indices : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_values_9 : Ref sig .tc := ⟨.hbm, 70, rfl⟩
abbrev main_indices_10 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_call1_v0 : Ref sig .tc := ⟨.hbm, 77, rfl⟩
abbrev main_v57 : Ref sig .tc := ⟨.hbm, 78, rfl⟩
abbrev main_c_12 : Ref sig .tc := ⟨.hbm, 79, rfl⟩
abbrev main_v58 : Ref sig .tc := ⟨.hbm, 80, rfl⟩
abbrev main_v59 : Ref sig .tc := ⟨.hbm, 81, rfl⟩
abbrev main_c_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_14 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_18 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_values_19 : Ref sig .tc := ⟨.hbm, 115, rfl⟩
abbrev main_indices_20 : Ref sig .tc := ⟨.hbm, 116, rfl⟩
abbrev main_v87 : Ref sig .tc := ⟨.hbm, 117, rfl⟩
abbrev main_cst_21 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_call2_v0 : Ref sig .tc := ⟨.hbm, 122, rfl⟩
abbrev main_v91 : Ref sig .tc := ⟨.hbm, 123, rfl⟩
abbrev main_c_22 : Ref sig .tc := ⟨.hbm, 124, rfl⟩
abbrev main_v92 : Ref sig .tc := ⟨.hbm, 125, rfl⟩
abbrev main_v93 : Ref sig .tc := ⟨.hbm, 126, rfl⟩
abbrev main_c_23 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_24 : Ref sig .tc := ⟨.hbm, 133, rfl⟩
abbrev main_v99 : Ref sig .tc := ⟨.hbm, 134, rfl⟩
abbrev main_v100 : Ref sig .tc := ⟨.hbm, 135, rfl⟩
abbrev main_cst_25 : Ref sig .tc := ⟨.hbm, 136, rfl⟩
abbrev main_v101 : Ref sig .tc := ⟨.hbm, 137, rfl⟩
abbrev main_v102 : Ref sig .tc := ⟨.hbm, 138, rfl⟩
abbrev main_cst_26 : Ref sig .tc := ⟨.hbm, 139, rfl⟩
abbrev main_v103 : Ref sig .tc := ⟨.hbm, 140, rfl⟩
abbrev main_v104 : Ref sig .tc := ⟨.hbm, 141, rfl⟩
abbrev main_cst_27 : Ref sig .tc := ⟨.hbm, 142, rfl⟩
abbrev main_v105 : Ref sig .tc := ⟨.hbm, 143, rfl⟩
abbrev main_v106 : Ref sig .tc := ⟨.hbm, 144, rfl⟩
abbrev main_cst_28 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_29 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_30 : Ref sig .tc := ⟨.hbm, 157, rfl⟩
abbrev main_v117 : Ref sig .tc := ⟨.hbm, 158, rfl⟩
abbrev main_cst_31 : Ref sig .tc := ⟨.hbm, 159, rfl⟩
abbrev main_v118 : Ref sig .tc := ⟨.hbm, 160, rfl⟩
abbrev main_cst_32 : Ref sig .tc := ⟨.hbm, 161, rfl⟩
abbrev main_v119 : Ref sig .tc := ⟨.hbm, 162, rfl⟩
abbrev main_cst_33 : Ref sig .tc := ⟨.hbm, 163, rfl⟩
abbrev main_v120 : Ref sig .tc := ⟨.hbm, 164, rfl⟩

abbrev nD : Nat := 1
abbrev τ : Topo := Topo.v7x

variable {F : FTy → Type} [FloatOps F]
-- ==== Proof.KernelRun.lean ====
module

public import proofs.«01_k».proof.Proof.Gen.KernelIdeal.Frame

/-! # The kernel's run

Every run of the kernel's program ends with the result at what the last host line leaves and the arguments unchanged. -/

@[expose] public section

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

set_option backward.isDefEq.respectTransparency.types false in
/-- Every run ends, the result at what the last host line leaves and the arguments unchanged. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.KernelRun
-- ==== Proof.Rounds.lean ====
module

public import proofs.«01_k».proof.Proof.Gen.KernelIdeal.Frame
public import Idealize.ShloMosaic.Lib.Pipeline.ValueKit

/-! # One round of the selection, and the rounds one after another

The kernel finds the nearest columns of each row of a block of distances by rounds. A round takes the least entry of each
row, marks the first column that holds it, and adds a large amount at the mark. This module names the round and what
`t` rounds leave, in the kernel's own operations. -/

@[expose] public section

set_option maxRecDepth 16384

noncomputable section

namespace Cert.KernelIdeal.Rounds

open Idealize.ShloMosaic Idealize.SL.Sem Cert.KernelIdeal Cert.KernelIdeal.Gen

variable {F : FTy → Type} [FloatOps F]

/-- Every entry's column number. -/
def columns : IVec S128x4096 32 := iota .tc S128x4096 32 [1] iota_S128x4096_d1_w32

/-- The least entry of each row. -/
def least (d : FVec F S128x4096 .f32) : FVec F S128x1 .f32 :=
  shapeCast S128x1 (multiReduction .minimumf [1] S128 d 0x7F800000#32 reduces_S128x4096_S128 (.inl rfl) rfl)
    shapeCasts_S128_S128x1

/-- Which entries are the least of their row. -/
def attains (d : FVec F S128x4096 .f32) : IVec S128x4096 1 :=
  cmpf .oeq d (broadcastTo S128x4096 (least d) broadcasts_S128x1_S128x4096)

/-- The column number where an entry is the least of its row, the number of columns elsewhere. -/
def places (d : FVec F S128x4096 .f32) : IVec S128x4096 32 :=
  select (attains d) columns (broadcast S128x4096 4096#32)

/-- The least of each row of whole numbers, along the row. -/
def firstPlace (p : IVec S128x4096 32) : IVec S128x4096 32 :=
  broadcastTo S128x4096
    (shapeCast S128x1 (multiReductionI .minsi [1] S128 p 2147483647#32 reduces_S128x4096_S128 rfl)
      shapeCasts_S128_S128x1) broadcasts_S128x1_S128x4096

/-- The first column holding the least entry of the row, as a whole number one; zero elsewhere. -/
def hit (d : FVec F S128x4096 .f32) : IVec S128x4096 32 :=
  extui 32 (cmpi .eq (places d) (firstPlace (places d))) natLt_1_32

/-- The mark of a round: one at the first column holding the least entry of the row, zero elsewhere. -/
def mark (d : FVec F S128x4096 .f32) : FVec F S128x4096 .f32 := sitofp .f32 (hit d)

/-- The distances after a round. -/
def next (d : FVec F S128x4096 .f32) : FVec F S128x4096 .f32 :=
  addf d (mulf (mark d) (broadcast S128x4096 (Scalar.ofBits .f32 0x7149F2CA#32)))

/-- One where the least entry of the row is within the radius, zero elsewhere. -/
def within (d : FVec F S128x4096 .f32) : FVec F S128x1 .f32 :=
  sitofp .f32 (extui 32 (cmpf .ole (least d) (broadcast S128x1 (Scalar.ofBits .f32 0x40200000#32))) natLt_1_32)

/-- The weights a round adds: its mark where within the radius, the first round's mark `m` elsewhere. -/
def chosen (m d : FVec F S128x4096 .f32) : FVec F S128x4096 .f32 :=
  addf m (mulf (broadcastTo S128x4096 (within d) broadcasts_S128x1_S128x4096) (subf (mark d) m))

/-- The distances after `t` rounds. -/
def left (d : FVec F S128x4096 .f32) : Nat → FVec F S128x4096 .f32
  | 0 => d
  | t + 1 => next (left d t)

/-- The weights of `t` rounds. -/
def weights (d : FVec F S128x4096 .f32) : Nat → FVec F S128x4096 .f32
  | 0 => broadcast S128x4096 (Scalar.ofBits .f32 0x00000000#32)
  | t + 1 => addf (weights d t) (chosen (mark d) (left d t))

/-- The weight of a round's choice in the interpolation: the inverse of the least entry and a small amount. -/
def inverse (d : FVec F S128x4096 .f32) : FVec F S128x1 .f32 :=
  divf (broadcast S128x1 (Scalar.ofBits .f32 0x3F800000#32))
    (addf (least d) (broadcast S128x1 (Scalar.ofBits .f32 0x322BCC77#32)))

/-- The sum of the interpolation's weights over `t` rounds. -/
def total (d : FVec F S128x4096 .f32) : Nat → FVec F S128x1 .f32
  | 0 => broadcast S128x1 (Scalar.ofBits .f32 0x00000000#32)
  | t + 1 => addf (total d t) (inverse (left d t))

/-- The choices of `t` rounds, each times its weight in the interpolation. -/
def blend (d : FVec F S128x4096 .f32) : Nat → FVec F S128x4096 .f32
  | 0 => broadcast S128x4096 (Scalar.ofBits .f32 0x00000000#32)
  | t + 1 => addf (blend d t)
      (mulf (broadcastTo S128x4096 (inverse (left d t)) broadcasts_S128x1_S128x4096) (chosen (mark d) (left d t)))

/-- The squared distances of a block of queries `q` to all points, whose coordinates are the rows of `r`. -/
def distances (q : FVec F S128x3 .f32) (r : FVec F S3x4096 .f32) : FVec F S128x4096 .f32 := k0_pay45 q r

/-- Row `c` of the curvature: the weighted sum of the coordinates `r` less ten times the query's `q`, over nine. -/
def curvatureRow (w : FVec F S128x4096 .f32) (r : FVec F S1x4096 .f32) (q : FVec F S128x1 .f32) : FVec F S128 .f32 :=
  divf (subf
    (multiReduction .add [1] S128 (mulf w (broadcastTo S128x4096 r broadcasts_S1x4096_S128x4096)) 0x00000000#32
      reduces_S128x4096_S128 (.inl rfl) rfl)
    (mulf (broadcast S128 (Scalar.ofBits .f32 0x41200000#32)) (shapeCast S128 q shapeCasts_S128x1_S128)))
    (broadcast S128 (Scalar.ofBits .f32 0x41100000#32))

/-- The three rows of the curvature, as the block that is stored. -/
def curvature (w : FVec F S128x4096 .f32) (r : FVec F S3x4096 .f32) (q : FVec F S128x3 .f32) : FVec F S1x3x128 .f32 :=
  shapeCast S1x3x128
    (concatenate S3x128 0
      [⟨S1x128, shapeCast S1x128 (curvatureRow w
          (extractStridedSlice S1x4096 ![0, 0] r slices_S3x4096_o0_0_S1x4096)
          (extractStridedSlice S128x1 ![0, 0] q slices_S128x3_o0_0_S128x1)) shapeCasts_S128_S1x128⟩,
       ⟨S1x128, shapeCast S1x128 (curvatureRow w
          (extractStridedSlice S1x4096 ![1, 0] r slices_S3x4096_o1_0_S1x4096)
          (extractStridedSlice S128x1 ![0, 1] q slices_S128x3_o0_1_S128x1)) shapeCasts_S128_S1x128⟩,
       ⟨S1x128, shapeCast S1x128 (curvatureRow w
          (extractStridedSlice S1x4096 ![2, 0] r slices_S3x4096_o2_0_S1x4096)
          (extractStridedSlice S128x1 ![0, 2] q slices_S128x3_o0_2_S128x1)) shapeCasts_S128_S1x128⟩]
      concatenates_S1x128_S1x128_S1x128_S3x128_d0) shapeCasts_S3x128_S1x3x128

/-- One coordinate's squared difference of the interpolated and the moved curvature. -/
def gap (a : FVec F S128x4096 .f32) (norm : FVec F S128x1 .f32) (c2 : FVec F S1x4096 .f32) (c1 : FVec F S1x128 .f32) :
    FVec F S128 .f32 :=
  let e := subf
    (divf (multiReduction .add [1] S128 (mulf a (broadcastTo S128x4096 c2 broadcasts_S1x4096_S128x4096)) 0x00000000#32
      reduces_S128x4096_S128 (.inl rfl) rfl) (shapeCast S128 norm shapeCasts_S128x1_S128))
    (shapeCast S128 c1 shapeCasts_S1x128_S128)
  mulf e e

/-- The loss of each query: the three squared differences added up. -/
def losses (a : FVec F S128x4096 .f32) (norm : FVec F S128x1 .f32) (c2 : FVec F S3x4096 .f32) (c1 : FVec F S3x128 .f32) :
    FVec F S1x128x1 .f32 :=
  shapeCast S1x128x1
    (addf (addf (addf (broadcast S128 (Scalar.ofBits .f32 0x00000000#32))
      (gap a norm (extractStridedSlice S1x4096 ![0, 0] c2 slices_S3x4096_o0_0_S1x4096)
        (extractStridedSlice S1x128 ![0, 0] c1 slices_S3x128_o0_0_S1x128)))
      (gap a norm (extractStridedSlice S1x4096 ![1, 0] c2 slices_S3x4096_o1_0_S1x4096)
        (extractStridedSlice S1x128 ![1, 0] c1 slices_S3x128_o1_0_S1x128)))
      (gap a norm (extractStridedSlice S1x4096 ![2, 0] c2 slices_S3x4096_o2_0_S1x4096)
        (extractStridedSlice S1x128 ![2, 0] c1 slices_S3x128_o2_0_S1x128)))
    shapeCasts_S128_S1x128x1

end Cert.KernelIdeal.Rounds
-- ==== Proof.Stages.lean ====
module

public import proofs.«01_k».proof.Proof.Rounds

/-! # What each kernel body stores, in rounds

The bodies are printed as a long list of values. Here each value that matters is shown to be what some number of rounds
leaves, and so each stored block is named in the vocabulary of the rounds: the two curvature blocks of the first kernel
and the block of losses of the second. -/

@[expose] public section

set_option maxRecDepth 16384

noncomputable section

namespace Cert.KernelIdeal.Stages

open Idealize.ShloMosaic Idealize.SL.Sem Cert.KernelIdeal Cert.KernelIdeal.Gen Cert.KernelIdeal.Rounds

variable {F : FTy → Type} [FloatOps F]

/-! ## The first block of the curvature kernel, two rounds at a time -/

section first
variable (d m w : FVec F S128x4096 .f32)

theorem left_two : k0_pay11 columns d = left d 2 := rfl
theorem weights_two : k0_pay10 columns d (Scalar.ofBits .f32 0x00000000#32) = weights d 2 := rfl
theorem left_four : k0_pay18 columns d = left d 2 := rfl
theorem least_four : k0_pay19 columns d = least (left d 2) := rfl
theorem weights_four : k0_pay17 columns m w d = addf (addf w (chosen m d)) (chosen m (next d)) := rfl
theorem left_six : k0_pay25 columns d (least d) = left d 2 := rfl
theorem weights_six : k0_pay24 columns m w d (least d) = addf (addf w (chosen m d)) (chosen m (next d)) := rfl
theorem least_six : k0_pay26 columns d (least d) = least (left d 2) := rfl
theorem attains_six : k0_pay27 columns d (least d) = attains (left d 2) := rfl
theorem weights_eight : k0_pay32 columns m w d (least d) (attains d) = addf (addf w (chosen m d)) (chosen m (next d)) := rfl
theorem left_eight : k0_pay33 columns d (attains d) = left d 2 := rfl
theorem least_eight : k0_pay34 columns d (attains d) = least (left d 2) := rfl
theorem attains_eight : k0_pay35 columns d (attains d) = attains (left d 2) := rfl
theorem weights_ten : k0_pay37 columns m w d (least d) (attains d) k0_pay36
    = addf (addf w (chosen m d)) (chosen m (next d)) := rfl
end first

section first
variable (x0 : Vec F S1x128x3 .f32) (x1 : Vec F S1x3x4096 .f32) (x2 : Vec F S1x128x3 .f32) (x3 : Vec F S1x3x4096 .f32)
  (x4 : Vec F S1x128x3 .f32) (x5 : Vec F S1x3x4096 .f32)

/-- The curvature kernel's first block: the curvature of the queries `x0` over the points `x1`. -/
theorem block_first : out0_6 x0 x1 x2 x3 x4 x5
    = curvature (weights (distances (k0_pay2 x0) (k0_pay3 x1)) 10) (k0_pay3 x1) (k0_pay2 x0) := by
  have hz : (![0, 0, 0] : Fin 3 → Nat) = fun _ => 0 := by decide
  have h85 : k0_pay85 x0 x1 x2 x3 x4 x5 = columns := rfl
  have h86 : k0_pay86 x0 x1 x2 x3 x4 x5 = k0_pay2 x0 := congrArg k0_pay2 (View.ld_unit_zero hz _ x0)
  have h87 : k0_pay87 x0 x1 x2 x3 x4 x5 = k0_pay3 x1 := congrArg k0_pay3 (View.ld_unit_zero hz _ x1)
  have h88 : k0_pay88 x0 x1 x2 x3 x4 x5 = distances (k0_pay2 x0) (k0_pay3 x1) :=
    (congrArg₂ k0_pay4 (View.ld_unit_zero hz _ x0) (View.ld_unit_zero hz _ x1)).trans rfl
  generalize distances (k0_pay2 x0) (k0_pay3 x1) = d at h88 ⊢
  have h89 : k0_pay89 x0 x1 x2 x3 x4 x5 = mark d := by unfold k0_pay89; rw [h85, h88]; rfl
  have h90 : k0_pay90 x0 x1 x2 x3 x4 x5 = left d 2 := by unfold k0_pay90; rw [h85, h88, left_two]
  have h91 : k0_pay91 x0 x1 x2 x3 x4 x5 = left d 4 := by unfold k0_pay91; rw [h85, h90, left_four]; rfl
  have h92 : k0_pay92 x0 x1 x2 x3 x4 x5 = least (left d 4) := by unfold k0_pay92; rw [h85, h90, least_four]; rfl
  have h93 : k0_pay93 x0 x1 x2 x3 x4 x5 = left d 6 := by unfold k0_pay93; rw [h85, h91, h92, left_six]; rfl
  have h94 : k0_pay94 x0 x1 x2 x3 x4 x5 = attains (left d 6) := by
    unfold k0_pay94; rw [h85, h91, h92, attains_six]; rfl
  have h95 : k0_pay95 x0 x1 x2 x3 x4 x5 = weights d 8 := by
    unfold k0_pay95
    rw [h85, h88, h89, h90, h91, h92, h93, h94, weights_two, weights_four, weights_six, least_six,
      show least (left (left d 4) 2) = least (left d 6) from rfl, weights_eight]
    rfl
  have h96 : k0_pay96 x0 x1 x2 x3 x4 x5 = left d 8 := by unfold k0_pay96; rw [h85, h93, h94, left_eight]; rfl
  have h97 : k0_pay97 x0 x1 x2 x3 x4 x5 = least (left d 8) := by
    unfold k0_pay97; rw [h85, h93, h94, least_eight]; rfl
  have h98 : k0_pay98 x0 x1 x2 x3 x4 x5 = attains (left d 8) := by
    unfold k0_pay98; rw [h85, h93, h94, attains_eight]; rfl
  have h99 : k0_pay99 x0 x1 x2 x3 x4 x5 = k0_pay36 := rfl
  unfold out0_6
  rw [View.canon_unit_zero hz, h85, h86, h87, h89, h95, h96, h97, h98, h99]
  have hw : k0_pay37 columns (mark d) (weights d 8) (left d 8) (least (left d 8)) (attains (left d 8)) k0_pay36
      = weights d 10 := weights_ten _ _ _
  unfold k0_pay38
  rw [hw]
  generalize weights d 10 = w
  rfl
end first

/-! ## The second block of the curvature kernel -/

section second
variable (q : FVec F S128x3 .f32) (r : FVec F S3x4096 .f32) (d m w : FVec F S128x4096 .f32)

theorem start_second : k0_pay45 q r = distances q r := rfl
theorem places_second : k0_pay48 columns q r = places (distances q r) := rfl
theorem first_second : k0_pay49 columns q r = firstPlace (places (distances q r)) := rfl
theorem mark_second : k0_pay50 (F := F) (places d) (firstPlace (places d)) = mark d := rfl
theorem weights_second : k0_pay54 columns d (k0_pay46 (F := F)) (least d) (places d) (firstPlace (places d))
    = weights d 2 := rfl
theorem left_second : k0_pay55 columns d (places d) (firstPlace (places d)) = left d 2 := rfl
theorem least_second : k0_pay56 columns d (places d) (firstPlace (places d)) = least (left d 2) := rfl
theorem hit_second : k0_pay57 columns d (places d) (firstPlace (places d)) = hit (left d 2) := rfl
theorem weights_third : k0_pay62 columns m w d (least d) (hit d) = addf (addf w (chosen m d)) (chosen m (next d)) := rfl
theorem left_third : k0_pay63 columns d (hit d) = left d 2 := rfl
theorem least_third : k0_pay64 columns d (hit d) = least (left d 2) := rfl
theorem mark_third : k0_pay65 columns d (hit d) = mark (left d 2) := rfl
theorem weights_fourth : k0_pay69 columns m w d (least d) (mark d) (Scalar.ofBits .f32 0x40200000#32)
    = addf (addf w (chosen m d)) (chosen m (next d)) := rfl
theorem left_fourth : k0_pay70 columns d (mark d) = left d 2 := rfl
theorem mark_fourth : k0_pay72 columns d (mark d) = mark (left d 2) := rfl
theorem close_fourth : k0_pay73 columns d (mark d)
    = cmpf .ole (least (left d 2)) (broadcast S128x1 (Scalar.ofBits .f32 0x40200000#32)) := rfl
theorem weights_fifth : k0_pay77 columns m w d (mark d)
    (cmpf .ole (least d) (broadcast S128x1 (Scalar.ofBits .f32 0x40200000#32)))
    = addf (addf w (chosen m d)) (chosen m (next d)) := rfl
theorem left_fifth : k0_pay78 columns d (mark d) = left d 2 := rfl
theorem mark_fifth : k0_pay80 columns d (mark d) = mark (left d 2) := rfl
theorem within_fifth : k0_pay81 columns d (mark d) = within (left d 2) := rfl
theorem weights_sixth : k0_pay82 columns m w d (mark d) (within d)
    = addf (addf w (chosen m d)) (chosen m (next d)) := rfl
end second

section second
variable (x0 : Vec F S1x128x3 .f32) (x1 : Vec F S1x3x4096 .f32) (x2 : Vec F S1x128x3 .f32) (x3 : Vec F S1x3x4096 .f32)
  (x4 : Vec F S1x128x3 .f32) (x5 : Vec F S1x3x4096 .f32)

/-- The curvature kernel's second block: the neighbours of the queries `x2` among the points `x3`, the curvature of the
    moved queries `x4` over the moved points `x5`. -/
theorem block_second : out0_7 x0 x1 x2 x3 x4 x5
    = curvature (weights (distances (k0_pay2 x2) (k0_pay3 x3)) 10) (k0_pay3 x5) (k0_pay2 x4) := by
  have hz : (![0, 0, 0] : Fin 3 → Nat) = fun _ => 0 := by decide
  have h85 : k0_pay85 x0 x1 x2 x3 x4 x5 = columns := rfl
  have h100 : k0_pay100 x0 x1 x2 x3 x4 x5 = k0_pay2 x2 := congrArg k0_pay2 (View.ld_unit_zero hz _ x2)
  have h101 : k0_pay101 x0 x1 x2 x3 x4 x5 = k0_pay3 x3 := congrArg k0_pay3 (View.ld_unit_zero hz _ x3)
  have h102 : k0_pay102 x0 x1 x2 x3 x4 x5 = k0_pay2 x4 := congrArg k0_pay2 (View.ld_unit_zero hz _ x4)
  have h103 : k0_pay103 x0 x1 x2 x3 x4 x5 = k0_pay3 x5 := congrArg k0_pay3 (View.ld_unit_zero hz _ x5)
  have h104 : k0_pay104 x0 x1 x2 x3 x4 x5 = distances (k0_pay2 x2) (k0_pay3 x3) := by
    unfold k0_pay104; rw [h100, h101]; rfl
  have h105 : k0_pay105 x0 x1 x2 x3 x4 x5 = places (distances (k0_pay2 x2) (k0_pay3 x3)) := by
    unfold k0_pay105; rw [h85, h100, h101, places_second]
  have h106 : k0_pay106 x0 x1 x2 x3 x4 x5 = firstPlace (places (distances (k0_pay2 x2) (k0_pay3 x3))) := by
    unfold k0_pay106; rw [h85, h100, h101, first_second]
  have h47 : k0_pay47 (k0_pay2 x2) (k0_pay3 x3) = least (distances (k0_pay2 x2) (k0_pay3 x3)) := rfl
  generalize distances (k0_pay2 x2) (k0_pay3 x3) = d at h104 h105 h106 h47 ⊢
  have h107 : k0_pay107 x0 x1 x2 x3 x4 x5 = mark d := by unfold k0_pay107; rw [h105, h106, mark_second]
  have h108 : k0_pay108 x0 x1 x2 x3 x4 x5 = left d 2 := by
    unfold k0_pay108; rw [h85, h104, h105, h106, left_second]
  have h109 : k0_pay109 x0 x1 x2 x3 x4 x5 = hit (left d 2) := by
    unfold k0_pay109; rw [h85, h104, h105, h106, hit_second]
  have h110 : k0_pay110 x0 x1 x2 x3 x4 x5 = left d 4 := by unfold k0_pay110; rw [h85, h108, h109, left_third]; rfl
  have h111 : k0_pay111 x0 x1 x2 x3 x4 x5 = mark (left d 4) := by
    unfold k0_pay111; rw [h85, h108, h109, mark_third]; rfl
  have h112 : k0_pay112 x0 x1 x2 x3 x4 x5 = left d 6 := by unfold k0_pay112; rw [h85, h110, h111, left_fourth]; rfl
  have h113 : k0_pay113 x0 x1 x2 x3 x4 x5 = mark (left d 6) := by
    unfold k0_pay113; rw [h85, h110, h111, mark_fourth]; rfl
  have h114 : k0_pay114 x0 x1 x2 x3 x4 x5 = weights d 8 := by
    unfold k0_pay114
    rw [h85, h100, h101, h104, h105, h106, h47, h107, h108, h109, h110, h111, h112, h113, weights_second,
      least_second, weights_third, least_third, show least (left (left d 2) 2) = least (left d 4) from rfl,
      weights_fourth, close_fourth, show least (left (left d 4) 2) = least (left d 6) from rfl, weights_fifth]
    rfl
  have h115 : k0_pay115 x0 x1 x2 x3 x4 x5 = left d 8 := by unfold k0_pay115; rw [h85, h112, h113, left_fifth]; rfl
  have h116 : k0_pay116 x0 x1 x2 x3 x4 x5 = mark (left d 8) := by
    unfold k0_pay116; rw [h85, h112, h113, mark_fifth]; rfl
  have h117 : k0_pay117 x0 x1 x2 x3 x4 x5 = within (left d 8) := by
    unfold k0_pay117; rw [h85, h112, h113, within_fifth]; rfl
  unfold out0_7
  rw [View.canon_unit_zero hz, h85, h102, h103, h107, h114, h115, h116, h117]
  have hw : k0_pay82 columns (mark d) (weights d 8) (left d 8) (mark (left d 8)) (within (left d 8))
      = weights d 10 := weights_sixth _ _ _
  unfold k0_pay83 k0_pay84
  rw [hw]
  generalize weights d 10 = w
  rfl
end second

/-! ## The block of the interpolation kernel -/

section third
variable (d m a : FVec F S128x4096 .f32) (n : FVec F S128x1 .f32)

theorem mark_loss : k1_pay4 columns d = mark d := rfl
theorem total_one : k1_pay6 d = total d 1 := rfl
theorem blend_one : k1_pay7 columns d (Scalar.ofBits .f32 0x00000000#32) = blend d 1 := rfl
theorem left_one : k1_pay8 columns d = next d := rfl
theorem least_one : k1_pay9 columns d = least (next d) := rfl
theorem mark_one : k1_pay10 columns d = mark (next d) := rfl
theorem least_one_add : k1_pay11 columns d
    = addf (least (next d)) (broadcast S128x1 (Scalar.ofBits .f32 0x322BCC77#32)) := rfl
theorem total_three : k1_pay17 n d (mark d) (addf (least d) (broadcast S128x1 (Scalar.ofBits .f32 0x322BCC77#32)))
    (Scalar.ofBits .f32 0x3F800000#32) = addf (addf n (inverse d)) (inverse (next d)) := rfl
theorem blend_three : k1_pay18 columns m a d (least d) (mark d)
    (addf (least d) (broadcast S128x1 (Scalar.ofBits .f32 0x322BCC77#32))) (Scalar.ofBits .f32 0x3F800000#32)
    = addf (addf a (mulf (broadcastTo S128x4096 (inverse d) broadcasts_S128x1_S128x4096) (chosen m d)))
      (mulf (broadcastTo S128x4096 (inverse (next d)) broadcasts_S128x1_S128x4096) (chosen m (next d))) := rfl
theorem left_three : k1_pay19 columns d (mark d) = left d 2 := rfl
theorem least_three : k1_pay20 columns d (mark d) = least (left d 2) := rfl
theorem blend_four : k1_pay23 columns m a d (least d)
    = addf a (mulf (broadcastTo S128x4096 (inverse d) broadcasts_S128x1_S128x4096) (chosen m d)) := rfl
theorem mark_four : k1_pay26 columns d (least d) = mark (next d) := rfl
theorem inverse_four : k1_pay27 columns d (least d) = inverse (next d) := rfl
theorem total_five : k1_pay28 columns n d (least d) = addf (addf n (inverse d)) (inverse (next d)) := rfl
theorem close_four : k1_pay29 columns d (least d)
    = cmpf .ole (least (next d)) (broadcast S128x1 (Scalar.ofBits .f32 0x40200000#32)) := rfl
theorem losses_five (c2 : Vec F S1x3x4096 .f32) (c1 : Vec F S1x3x128 .f32) :
    k1_pay1 (k1_pay30 m a (mark d) (inverse d) n
      (cmpf .ole (least d) (broadcast S128x1 (Scalar.ofBits .f32 0x40200000#32))) c2 c1)
    = losses (addf a (mulf (broadcastTo S128x4096 (inverse d) broadcasts_S128x1_S128x4096) (chosen m d))) n
      (k0_pay3 c2) (shapeCast S3x128 c1 shapeCasts_S1x3x128_S3x128) := rfl
end third

section third
variable (x0 : Vec F S1x128x3 .f32) (x1 : Vec F S1x3x4096 .f32) (x2 : Vec F S1x3x4096 .f32) (x3 : Vec F S1x3x128 .f32)

/-- The interpolation kernel's block: the losses of the queries `x0` among the points `x1`, whose curvature is `x2`, the
    queries' own curvature being `x3`. -/
theorem block_loss : out1_4 x0 x1 x2 x3
    = losses (blend (distances (k0_pay2 x0) (k0_pay3 x1)) 5) (total (distances (k0_pay2 x0) (k0_pay3 x1)) 5)
      (k0_pay3 x2) (shapeCast S3x128 x3 shapeCasts_S1x3x128_S3x128) := by
  have hz : (![0, 0, 0] : Fin 3 → Nat) = fun _ => 0 := by decide
  have e2 : View.ld x2 r1_1 = x2 := View.ld_unit_zero hz _ x2
  have e3 : View.ld x3 r1_2 = x3 := View.ld_unit_zero hz _ x3
  have h31 : k1_pay31 x0 x1 x2 x3 = columns := rfl
  have h32 : k1_pay32 x0 x1 x2 x3 = distances (k0_pay2 x0) (k0_pay3 x1) :=
    (congrArg₂ k1_pay2 (View.ld_unit_zero hz _ x0) (View.ld_unit_zero hz _ x1)).trans rfl
  generalize distances (k0_pay2 x0) (k0_pay3 x1) = d at h32 ⊢
  have h33 : k1_pay33 x0 x1 x2 x3 = mark d := by unfold k1_pay33; rw [h31, h32, mark_loss]
  have h34 : k1_pay34 x0 x1 x2 x3 = left d 1 := by unfold k1_pay34; rw [h31, h32, left_one]; rfl
  have h35 : k1_pay35 x0 x1 x2 x3 = mark (left d 1) := by unfold k1_pay35; rw [h31, h32, mark_one]; rfl
  have h36 : k1_pay36 x0 x1 x2 x3
      = addf (least (left d 1)) (broadcast S128x1 (Scalar.ofBits .f32 0x322BCC77#32)) := by
    unfold k1_pay36; rw [h31, h32, least_one_add]; rfl
  have h37 : k1_pay37 x0 x1 x2 x3 = left d 3 := by unfold k1_pay37; rw [h31, h34, h35, left_three]; rfl
  have h38 : k1_pay38 x0 x1 x2 x3 = least (left d 3) := by unfold k1_pay38; rw [h31, h34, h35, least_three]; rfl
  unfold out1_4
  rw [View.canon_unit_zero hz, e2, e3, h31, h32, h33, h34, h35, h36, h37, h38, blend_one, least_one,
    show least (next d) = least (left d 1) from rfl, blend_three, blend_four, mark_four, inverse_four, total_one,
    total_three, total_five, close_four, losses_five]
  rfl
end third

end Cert.KernelIdeal.Stages
-- ==== Proof.Order.lean ====
module

public import Idealize.ShloMosaic.Lib.SortFacts
public import Mathlib.Data.Real.Basic
public import Mathlib.Tactic.Linarith

/-! # The nearest positions of a row

A row gives every position `j` a real number `d j` (a squared distance). `near d t` is the position a stable sort by `d`
puts at place `t`: the `t`-th nearest position, an earlier position winning a tie. This module shows that the positions
come in strictly increasing order of the pair (distance, position), and that raising the distances of the first `t` of
them by an amount larger than every distance makes the `t`-th one the first least position of the row. -/

@[expose] public section

noncomputable section

namespace Cert.Order

open Idealize.ShloMosaic

variable {n : Nat}

/-- Position `i` comes before position `j`: it is nearer, or as near and earlier in the row. -/
def Precedes (d : Fin n → ℝ) (i j : Fin n) : Prop := d i < d j ∨ (d i = d j ∧ i < j)

theorem Precedes.trans {d : Fin n → ℝ} {i j k : Fin n} (h : Precedes d i j) (h' : Precedes d j k) : Precedes d i k := by
  unfold Precedes at *
  rcases h with h | ⟨h, hl⟩ <;> rcases h' with h' | ⟨h', hl'⟩
  · exact .inl (h.trans h')
  · exact .inl (h' ▸ h)
  · exact .inl (h ▸ h')
  · exact .inr ⟨h.trans h', hl.trans hl'⟩

/-- The position that a stable sort by `d` puts at place `t`. -/
def near (d : Fin n → ℝ) (t : Fin n) : Fin n := sortedFrom (fun i j => decide (d i < d j)) t

/-- Inserting a position earlier than all of an ordered list, at the place the stable sort gives it, keeps the list
    ordered. -/
theorem pairwise_insert (d : Fin n → ℝ) (a : Fin n) (l : List (Fin n)) (hl : l.Pairwise (Precedes d))
    (ha : ∀ c ∈ l, a < c) : (insertBefore (fun i j => decide (d i < d j)) a l).Pairwise (Precedes d) := by
  induction l with
  | nil => exact List.pairwise_singleton _ _
  | cons b l ih =>
    obtain ⟨hb, hl'⟩ := List.pairwise_cons.mp hl
    have hab := ha b List.mem_cons_self
    unfold insertBefore
    split
    · rename_i h
      have h := of_decide_eq_true h
      refine List.pairwise_cons.mpr ⟨fun c hc => ?_, ih hl' fun c hc => ha c (List.mem_cons_of_mem _ hc)⟩
      rcases List.mem_cons.mp ((perm_insertBefore _ a l).mem_iff.mp hc) with rfl | hc
      · exact .inl h
      · exact hb c hc
    · rename_i h
      have h : ¬ d b < d a := fun h' => h (decide_eq_true h')
      have hba : Precedes d a b := by
        rcases lt_or_eq_of_le (not_lt.mp h) with h | h
        · exact .inl h
        · exact .inr ⟨h, hab⟩
      refine List.pairwise_cons.mpr ⟨fun c hc => ?_, hl⟩
      rcases List.mem_cons.mp hc with rfl | hc
      · exact hba
      · exact hba.trans (hb c hc)

/-- A stable sort of positions listed in increasing order is ordered by `Precedes`. -/
theorem pairwise_sort (d : Fin n → ℝ) (l : List (Fin n)) (hl : l.Pairwise (· < ·)) :
    (stableSort (fun i j => decide (d i < d j)) l).Pairwise (Precedes d) := by
  induction l with
  | nil => exact List.Pairwise.nil
  | cons a l ih =>
    obtain ⟨ha, hl'⟩ := List.pairwise_cons.mp hl
    exact pairwise_insert d a _ (ih hl') fun c hc => ha c ((perm_stableSort _ l).mem_iff.mp hc)

/-- The places are in the order of `Precedes`. -/
theorem near_precedes (d : Fin n → ℝ) {s t : Fin n} (h : s < t) : Precedes d (near d s) (near d t) := by
  have hp : (sortPositions n fun i j => decide (d i < d j)).Pairwise (Precedes d) :=
    pairwise_sort d (List.finRange n) (List.pairwise_lt_finRange n)
  exact List.pairwise_iff_get.mp hp _ _ (Fin.lt_def.mpr (by rw [Fin.val_cast, Fin.val_cast]; exact h))

theorem near_injective (d : Fin n → ℝ) : Function.Injective (near d) := sortedFrom_injective _

theorem near_surjective (d : Fin n → ℝ) : Function.Surjective (near d) := sortedFrom_surjective _

/-- `p` is the first position at which `D` is least. -/
structure FirstLeast {α : Type} [LE α] (D : Fin n → α) (p : Fin n) : Prop where
  least : ∀ j, D p ≤ D j
  first : ∀ j, D j = D p → p ≤ j

/-- The row with the amount `big` added at its `t` nearest positions. -/
def raised (big : ℝ) (d : Fin n → ℝ) (t : Nat) (j : Fin n) : ℝ :=
  d j + if ∃ u : Fin n, u.val < t ∧ j = near d u then big else 0

theorem raised_zero (big : ℝ) (d : Fin n → ℝ) : raised big d 0 = d := by
  funext j
  simp [raised]

/-- A position at place `t` or later is not raised in the row raised at `t` places. -/
theorem raised_near (big : ℝ) (d : Fin n → ℝ) {t : Nat} {u : Fin n} (h : t ≤ u.val) :
    raised big d t (near d u) = d (near d u) := by
  unfold raised
  rw [if_neg, add_zero]
  rintro ⟨v, hv, e⟩
  have := near_injective d e
  subst this
  omega

/-- Raising one more place. -/
theorem raised_succ (big : ℝ) (d : Fin n → ℝ) (t : Fin n) (j : Fin n) :
    raised big d (t.val + 1) j = raised big d t.val j + if j = near d t then big else 0 := by
  by_cases h : j = near d t
  · subst h
    rw [raised_near big d le_rfl, if_pos rfl, raised, if_pos ⟨t, Nat.lt_succ_self _, rfl⟩]
  · rw [if_neg h, add_zero]
    unfold raised
    congr 1
    refine if_congr ⟨?_, ?_⟩ rfl rfl
    · rintro ⟨u, hu, e⟩
      refine ⟨u, lt_of_le_of_ne (Nat.lt_succ_iff.mp hu) fun hut => h ?_, e⟩
      rw [e, Fin.ext hut]
    · rintro ⟨u, hu, e⟩
      exact ⟨u, Nat.lt_succ_of_lt hu, e⟩

/-- In the row raised at `t` places by more than every distance, the first least position is the one at place `t`. -/
theorem firstLeast_raised {big : ℝ} {d : Fin n → ℝ} (h0 : ∀ j, 0 ≤ d j) (hb : ∀ j, d j < big) (t : Fin n) :
    FirstLeast (raised big d t.val) (near d t) := by
  have key : ∀ j, raised big d t.val (near d t) < raised big d t.val j ∨
      (raised big d t.val (near d t) = raised big d t.val j ∧ near d t ≤ j) := by
    intro j
    obtain ⟨u, rfl⟩ := near_surjective d j
    rw [raised_near big d le_rfl]
    by_cases hu : u.val < t.val
    · left
      unfold raised
      rw [if_pos ⟨u, hu, rfl⟩]
      linarith [h0 (near d u), hb (near d t)]
    · rw [raised_near big d (not_lt.mp hu)]
      rcases eq_or_lt_of_le (show t ≤ u from not_lt.mp hu) with rfl | hlt
      · exact .inr ⟨rfl, le_rfl⟩
      · rcases near_precedes d hlt with h | ⟨h, hl⟩
        · exact .inl h
        · exact .inr ⟨h, hl.le⟩
  exact ⟨fun j => (key j).elim le_of_lt fun h => h.1.le,
    fun j e => (key j).elim (fun h => absurd e.symm (ne_of_lt h)) fun h => h.2⟩

end Cert.Order
-- ==== Proof.Spec.lean ====
module

public import proofs.«01_k».proof.Proof.Order
public import Mathlib.Algebra.BigOperators.Fin
public import Mathlib.Algebra.Order.BigOperators.Group.Finset

/-! # The curvature loss in real numbers

The quantities both programs compute, for clouds of 4096 points with real coordinates: the squared distances of a query
to a cloud, the positions chosen among its nearest points, the curvature, the interpolated curvature and the loss. -/

@[expose] public section

noncomputable section

namespace Cert.Spec

open Finset

/-- A cloud: every point's three coordinates. -/
abbrev Cloud := Fin 4096 → Fin 3 → ℝ

/-- The squared distances of the query `q` to the points of `r`. -/
def row (q : Fin 3 → ℝ) (r : Cloud) (j : Fin 4096) : ℝ := ∑ c, (q c - r j c) ^ 2

theorem row_nonneg (q : Fin 3 → ℝ) (r : Cloud) (j : Fin 4096) : 0 ≤ row q r j := sum_nonneg fun _ _ => sq_nonneg _

/-- The position of the `t`-th nearest point. -/
def nearest (d : Fin 4096 → ℝ) (t : Nat) : Fin 4096 := Order.near d (Fin.ofNat 4096 t)

/-- The position chosen for the `t`-th neighbour: the `t`-th nearest point if it is within the radius, else the nearest. -/
def pick (d : Fin 4096 → ℝ) (t : Nat) : Fin 4096 := if d (nearest d t) ≤ 5 / 2 then nearest d t else nearest d 0

/-- One coordinate of the curvature: the ten chosen points less ten times the query, over nine. -/
def curv (d : Fin 4096 → ℝ) (r : Fin 4096 → ℝ) (q : ℝ) : ℝ := (∑ t ∈ range 10, r (pick d t) - 10 * q) / 9

/-- The small amount added to a distance before it is inverted. -/
def eps : ℝ := 11258999 / 2 ^ 50

/-- The weight of the `t`-th neighbour in the interpolation. -/
def inv (d : Fin 4096 → ℝ) (t : Nat) : ℝ := 1 / (d (nearest d t) + eps)

/-- The weighted mean of `f` over the five chosen points. -/
def mix (d : Fin 4096 → ℝ) (f : Fin 4096 → ℝ) : ℝ :=
  (∑ t ∈ range 5, inv d t * f (pick d t)) / ∑ t ∈ range 5, inv d t

/-- The curvature of the target cloud at a point. -/
def curvTarget (pt : Cloud) (i : Fin 4096) (c : Fin 3) : ℝ := curv (row (pt i) pt) (fun j => pt j c) (pt i c)

/-- The curvature of the moved cloud at a point, among the neighbours the point has in the source cloud. -/
def curvMoved (ps wp : Cloud) (i : Fin 4096) (c : Fin 3) : ℝ := curv (row (ps i) ps) (fun j => wp j c) (wp i c)

/-- The loss of one point: the squared difference of the interpolated and the moved curvature. -/
def pointLoss (pt ps wp : Cloud) (i : Fin 4096) : ℝ :=
  ∑ c, (mix (row (wp i) pt) (fun j => curvTarget pt j c) - curvMoved ps wp i c) ^ 2

/-- The loss of four clouds: the losses of their points added up, over four. -/
def loss (pt ps wp : Fin 4 → Cloud) : ℝ := (∑ b, ∑ i, pointLoss (pt b) (ps b) (wp b) i) / 4

theorem eps_pos : 0 < eps := by unfold eps; norm_num

theorem inv_pos {d : Fin 4096 → ℝ} (h : ∀ j, 0 ≤ d j) (t : Nat) : 0 < inv d t :=
  div_pos one_pos (add_pos_of_nonneg_of_pos (h _) eps_pos)

theorem sum_inv_pos {d : Fin 4096 → ℝ} (h : ∀ j, 0 ≤ d j) : 0 < ∑ t ∈ range 5, inv d t :=
  sum_pos (fun t _ => inv_pos h t) ⟨0, mem_range.mpr (by norm_num)⟩

end Cert.Spec
-- ==== Proof.Constants.lean ====
module

public import proofs.«01_k».proof.Proof.Spec
public import Idealize.ShloMosaic.PureOps.Ideal.Laws

/-! # The constants of both programs as real numbers -/

@[expose] public section

noncomputable section

namespace Cert.Constants

open Idealize.ShloMosaic

/-- The amount a round adds at its mark. -/
def big : ℝ := 13234890 * 2 ^ 76

/-- The bound on the coordinates. -/
def limit : ℝ := 11920929 * 2 ^ 23

theorem big_word : Ideal.ofBits .f32 0x7149F2CA#32 = ((big : ℝ) : EReal) := by
  unfold big
  simp [Ideal.ofBits, Ideal.ieee, -EReal.coe_mul] <;> norm_num
theorem limit_word : Ideal.ofBits .f32 0x56B5E621#32 = ((limit : ℝ) : EReal) := by
  unfold limit
  simp [Ideal.ofBits, Ideal.ieee, -EReal.coe_mul] <;> norm_num
theorem eps_word : Ideal.ofBits .f32 0x322BCC77#32 = ((Spec.eps : ℝ) : EReal) := by
  unfold Spec.eps
  simp [Ideal.ofBits, Ideal.ieee, -EReal.coe_mul] <;> norm_num
theorem radius_word : Ideal.ofBits .f32 0x40200000#32 = ((5 / 2 : ℝ) : EReal) := by
  simp [Ideal.ofBits, Ideal.ieee, -EReal.coe_mul] <;> norm_num
theorem two_word : Ideal.ofBits .f32 0x40000000#32 = ((2 : ℝ) : EReal) := by
  simp [Ideal.ofBits, Ideal.ieee, -EReal.coe_mul] <;> norm_num
theorem four_word : Ideal.ofBits .f32 0x40800000#32 = ((4 : ℝ) : EReal) := by
  simp [Ideal.ofBits, Ideal.ieee, -EReal.coe_mul] <;> norm_num
theorem nine_word : Ideal.ofBits .f32 0x41100000#32 = ((9 : ℝ) : EReal) := by
  simp [Ideal.ofBits, Ideal.ieee, -EReal.coe_mul] <;> norm_num
theorem ten_word : Ideal.ofBits .f32 0x41200000#32 = ((10 : ℝ) : EReal) := by
  simp [Ideal.ofBits, Ideal.ieee, -EReal.coe_mul] <;> norm_num
theorem one_word : Ideal.ofBits .f32 0x3F800000#32 = ((1 : ℝ) : EReal) := by
  simp [Ideal.ofBits, Ideal.ieee, -EReal.coe_mul] <;> norm_num
theorem zero_word : Ideal.ofBits .f32 0x00000000#32 = ((0 : ℝ) : EReal) := by
  simp [Ideal.ofBits, Ideal.ieee, -EReal.coe_mul] <;> norm_num
theorem top_word : Ideal.ofBits .f32 0x7F800000#32 = ⊤ := by
  simp [Ideal.ofBits, Ideal.ieee, -EReal.coe_mul]

/-- A quotient of real numbers. -/
theorem div_real (x y : ℝ) (h : y ≠ 0) : Ideal.div (x : EReal) (y : EReal) = ((x / y : ℝ) : EReal) := by
  rw [Ideal.div_coe h, ← EReal.coe_mul, mul_one_div]

/-- A sum of real numbers. -/
theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The minimum of a real row, from infinity. -/
theorem fold_min {n : Nat} (f : Fin n → EReal) (p : Fin n) (h : ∀ j, f p ≤ f j) : Finset.fold min ⊤ f Finset.univ = f p :=
  le_antisymm ((Finset.fold_min_le _).mpr (.inr ⟨p, Finset.mem_univ p, le_rfl⟩))
    (Finset.le_fold_min _ |>.mpr ⟨le_top, fun j _ => h j⟩)

/-- The minimum of a row of signed words. -/
theorem fold_minsi {n : Nat} (b : BitVec 32) (f : Fin n → BitVec 32) (p : Fin n) (hb : (f p).toInt ≤ b.toInt)
    (h : ∀ j, (f p).toInt ≤ (f j).toInt) : Finset.fold IntOp.minsi b f Finset.univ = f p := by
  have hm : ∀ x y : BitVec 32, (IntOp.minsi x y).toInt = min x.toInt y.toInt := by
    intro x y
    unfold IntOp.minsi
    simp only [BitVec.sle_iff_toInt_le, BitVec.slt_iff_toInt_lt]
    split <;> omega
  apply BitVec.eq_of_toInt_eq
  rw [← Finset.fold_hom (op := IntOp.minsi) (op' := min) (m := BitVec.toInt) (hm := hm)]
  exact le_antisymm ((Finset.fold_min_le _).mpr (.inr ⟨p, Finset.mem_univ p, le_rfl⟩))
    (Finset.le_fold_min _ |>.mpr ⟨hb, fun j _ => h j⟩)

end Cert.Constants
-- ==== Proof.Reads.lean ====
module

public import proofs.«01_k».proof.Proof.Rounds
public import proofs.«01_k».proof.Proof.Constants
public import Idealize.ShloMosaic.Lib.Pointwise
public import Idealize.ShloMosaic.Lib.WordCmp

/-! # The operations of a round read at one position

Over the extended reals. If a row of the block has its first least entry at column `p`, the round's mark on that row is
one at `p` and zero elsewhere. -/

@[expose] public section

set_option maxRecDepth 16384

noncomputable section

namespace Cert.KernelIdeal.Reads

open Idealize.ShloMosaic Idealize.SL.Sem Cert.KernelIdeal Cert.KernelIdeal.Gen Cert.KernelIdeal.Rounds

section generic
variable {F : FTy → Type} [FloatOps F]

theorem within_at (d : FVec F S128x4096 .f32) (x : S128x1.Idx) : within d x =
    FloatOps.sitofp .f32 ((FloatOps.cmpf .ole (least d x) (Scalar.ofBits .f32 0x40200000#32)).setWidth 32) := by
  unfold within; generalize least d = l; rfl

theorem inverse_at (d : FVec F S128x4096 .f32) (x : S128x1.Idx) : inverse d x =
    FloatOps.divf (Scalar.ofBits .f32 0x3F800000#32)
      (FloatOps.addf (least d x) (Scalar.ofBits .f32 0x322BCC77#32)) := by
  unfold inverse; generalize least d = l; rfl

end generic

variable (d : FVec Ideal S128x4096 .f32) (i : Fin 128)

theorem inverse_read (x : S128x1.Idx) : inverse d x =
    Ideal.div (Ideal.ofBits .f32 0x3F800000#32) ((least d x : EReal) + Ideal.ofBits .f32 0x322BCC77#32) := by
  rw [inverse_at]; generalize least d x = l; rfl

theorem within_read (x : S128x1.Idx) : within d x =
    FloatOps.sitofp .f32 ((BitVec.ofBool (decide ((least d x : EReal) ≤ Ideal.ofBits .f32 0x40200000#32))).setWidth 32) := by
  rw [within_at]; generalize least d x = l; rfl

theorem least_read : least d (ix2 i 0) =
    Finset.fold min (Ideal.ofBits .f32 0x7F800000#32) (fun x => d (ix2 i x)) Finset.univ := by
  pointwise [least]

theorem places_read (j : Fin 4096) : places d (ix2 i j) =
    if (d (ix2 i j) : EReal) = least d (ix2 i 0) then BitVec.ofNat 32 j.val else 4096#32 := by
  pointwise [places, attains, columns]

theorem firstPlace_read (p : IVec S128x4096 32) (j : Fin 4096) : firstPlace p (ix2 i j) =
    Finset.fold IntOp.minsi 2147483647#32 (fun x => p (ix2 i x)) Finset.univ := by
  pointwise [firstPlace]

theorem mark_read (j : Fin 4096) : mark d (ix2 i j) =
    FloatOps.sitofp (F := Ideal) .f32
      (BitVec.setWidth 32 (IntOp.cmpi .eq (places d (ix2 i j)) (firstPlace (places d) (ix2 i j)))) := by
  pointwise [mark, hit]

/-- The least entry of a row whose first least entry is at `p`. -/
theorem least_of {p : Fin 4096} (h : Order.FirstLeast (fun j => (d (ix2 i j) : EReal)) p) :
    least d (ix2 i 0) = d (ix2 i p) := by
  rw [least_read, Constants.top_word]
  exact Constants.fold_min (fun j => (d (ix2 i j) : EReal)) p h.least

theorem toInt_column (j : Fin 4096) : (BitVec.ofNat 32 j.val).toInt = j.val := by
  have := j.isLt
  rw [BitVec.toInt_ofNat', Int.bmod_eq_of_le] <;> omega

/-- The first column of that row, as the round finds it. -/
theorem firstPlace_of {p : Fin 4096} (h : Order.FirstLeast (fun j => (d (ix2 i j) : EReal)) p) (j : Fin 4096) :
    firstPlace (places d) (ix2 i j) = BitVec.ofNat 32 p.val := by
  have hp : places d (ix2 i p) = BitVec.ofNat 32 p.val := by
    rw [places_read, least_of d i h, if_pos rfl]
  have hp' := toInt_column p
  have hlt := p.isLt
  rw [firstPlace_read, ← hp]
  refine Constants.fold_minsi _ (fun x => places d (ix2 i x)) p ?_ fun x => ?_
  · show (places d (ix2 i p)).toInt ≤ _
    rw [hp, hp']
    have : (2147483647#32).toInt = 2147483647 := by decide
    omega
  · show (places d (ix2 i p)).toInt ≤ (places d (ix2 i x)).toInt
    rw [hp, hp', places_read, least_of d i h]
    split
    · next hx => rw [toInt_column]; exact_mod_cast h.first x hx
    · have : (4096#32).toInt = 4096 := by decide
      omega

/-- The mark on that row. -/
theorem mark_of {p : Fin 4096} (h : Order.FirstLeast (fun j => (d (ix2 i j) : EReal)) p) (j : Fin 4096) :
    mark d (ix2 i j) = (((if j = p then 1 else 0 : ℝ)) : EReal) := by
  rw [mark_read, firstPlace_of d i h, places_read, least_of d i h, WordCmp.cmpi_eq_eq]
  have hj := toInt_column j
  have hp := toInt_column p
  have hlt := p.isLt
  have key : ((if (d (ix2 i j) : EReal) = d (ix2 i p) then BitVec.ofNat 32 j.val else 4096#32) = BitVec.ofNat 32 p.val) ↔ j = p := by
    constructor
    · split
      · intro e
        have := congrArg BitVec.toInt e
        rw [hj, hp] at this
        exact Fin.ext (by omega)
      · intro e
        have := congrArg BitVec.toInt e
        rw [hp] at this
        have h4 : (4096#32).toInt = 4096 := by decide
        omega
    · rintro rfl
      rw [if_pos rfl]
  rw [decide_eq_decide.mpr key]
  by_cases e : j = p
  · rw [if_pos e, decide_eq_true e]
    show (((BitVec.setWidth 32 (BitVec.ofBool true)).toInt : ℝ) : EReal) = _
    have : (BitVec.setWidth 32 (BitVec.ofBool true)).toInt = 1 := by decide
    rw [this, Int.cast_one]
  · rw [if_neg e, decide_eq_false e]
    show (((BitVec.setWidth 32 (BitVec.ofBool false)).toInt : ℝ) : EReal) = _
    have : (BitVec.setWidth 32 (BitVec.ofBool false)).toInt = 0 := by decide
    rw [this, Int.cast_zero]

theorem next_read (j : Fin 4096) : next d (ix2 i j) =
    (d (ix2 i j) : EReal) + mark d (ix2 i j) * Ideal.ofBits .f32 0x7149F2CA#32 := by
  pointwise [next]

theorem chosen_read (m : FVec Ideal S128x4096 .f32) (j : Fin 4096) : chosen m d (ix2 i j) =
    (m (ix2 i j) : EReal) + within d (ix2 i 0) * (mark d (ix2 i j) - m (ix2 i j)) := by
  pointwise [chosen]

/-- The radius test as a real number. -/
theorem within_of {l : ℝ} (h : least d (ix2 i 0) = ((l : ℝ) : EReal)) :
    within d (ix2 i 0) = ((if l ≤ 5 / 2 then 1 else 0 : ℝ) : EReal) := by
  rw [within_read, h, Constants.radius_word]
  by_cases e : l ≤ 5 / 2
  · rw [if_pos e, decide_eq_true (EReal.coe_le_coe_iff.mpr e)]
    show (((BitVec.setWidth 32 (BitVec.ofBool true)).toInt : ℝ) : EReal) = _
    have : (BitVec.setWidth 32 (BitVec.ofBool true)).toInt = 1 := by decide
    rw [this, Int.cast_one]
  · rw [if_neg e, decide_eq_false (mt EReal.coe_le_coe_iff.mp e)]
    show (((BitVec.setWidth 32 (BitVec.ofBool false)).toInt : ℝ) : EReal) = _
    have : (BitVec.setWidth 32 (BitVec.ofBool false)).toInt = 0 := by decide
    rw [this, Int.cast_zero]

/-- The inverse weight as a real number. -/
theorem inverse_of {l : ℝ} (hl : 0 ≤ l) (h : least d (ix2 i 0) = ((l : ℝ) : EReal)) :
    inverse d (ix2 i 0) = ((1 / (l + Spec.eps) : ℝ) : EReal) := by
  rw [inverse_read, h, Constants.one_word, Constants.eps_word, ← EReal.coe_add,
    Constants.div_real _ _ (add_pos_of_nonneg_of_pos hl Spec.eps_pos).ne']

end Cert.KernelIdeal.Reads
-- ==== Proof.Weights.lean ====
module

public import proofs.«01_k».proof.Proof.Reads

/-! # What the rounds leave on a row of real distances

The row holds the real numbers `d`, none negative and all less than the amount a round adds. After `t` rounds the `t`
nearest columns are raised, the `t`-th round marks the `t`-th nearest column, and the weights count how often a column is
picked. -/

@[expose] public section

set_option maxRecDepth 16384

noncomputable section

namespace Cert.KernelIdeal.Weights

open Idealize.ShloMosaic Idealize.SL.Sem Cert.KernelIdeal Cert.KernelIdeal.Gen Cert.KernelIdeal.Rounds Cert.KernelIdeal.Reads
open Constants Spec

/-- Row `i` of the block `D` holds the real numbers `d`, none negative and all less than the amount a round adds. -/
structure Holds (D : FVec Ideal S128x4096 .f32) (i : Fin 128) (d : Fin 4096 → ℝ) : Prop where
  read : ∀ j, D (ix2 i j) = ((d j : ℝ) : EReal)
  nonneg : ∀ j, 0 ≤ d j
  lt : ∀ j, d j < big

theorem firstLeast_real {D : FVec Ideal S128x4096 .f32} {i : Fin 128} {e : Fin 4096 → ℝ} {p : Fin 4096}
    (hD : ∀ j, D (ix2 i j) = ((e j : ℝ) : EReal)) (h : Order.FirstLeast e p) :
    Order.FirstLeast (fun j => (D (ix2 i j) : EReal)) p where
  least j := by
    show (D (ix2 i p) : EReal) ≤ D (ix2 i j)
    rw [hD, hD]; exact EReal.coe_le_coe_iff.mpr (h.least j)
  first j hj := by
    change (D (ix2 i j) : EReal) = D (ix2 i p) at hj
    rw [hD, hD] at hj; exact h.first j (EReal.coe_eq_coe_iff.mp hj)

variable {D : FVec Ideal S128x4096 .f32} {i : Fin 128} {d : Fin 4096 → ℝ}

/-- The distances after `t` rounds. -/
theorem left_eq (h : Holds D i d) : ∀ t : Nat, t ≤ 4096 → ∀ j, left D t (ix2 i j) = ((Order.raised big d t j : ℝ) : EReal)
  | 0, _, j => by rw [Order.raised_zero]; exact h.read j
  | t + 1, ht, j => by
    have ih := left_eq h t (by omega)
    have hm := mark_of (left D t) i (firstLeast_real ih (Order.firstLeast_raised h.nonneg h.lt ⟨t, ht⟩)) j
    have hs := Order.raised_succ big d ⟨t, ht⟩ j
    change Order.raised big d (t + 1) j = Order.raised big d t j + _ at hs
    show next (left D t) (ix2 i j) = _
    rw [next_read, hm, ih j, big_word, ← EReal.coe_mul, ← EReal.coe_add, hs, ite_mul, one_mul, zero_mul]

/-- The first least entry after `t` rounds is at the `t`-th nearest column. -/
theorem firstLeast_left (h : Holds D i d) {t : Nat} (ht : t < 4096) :
    Order.FirstLeast (fun j => (left D t (ix2 i j) : EReal)) (nearest d t) := by
  have := firstLeast_real (left_eq h t ht.le) (Order.firstLeast_raised h.nonneg h.lt ⟨t, ht⟩)
  have e : Fin.ofNat 4096 t = ⟨t, ht⟩ := Fin.ext (Nat.mod_eq_of_lt ht)
  rw [nearest, e]; exact this

/-- The least entry after `t` rounds is the distance of the `t`-th nearest column. -/
theorem least_left (h : Holds D i d) {t : Nat} (ht : t < 4096) :
    least (left D t) (ix2 i 0) = ((d (nearest d t) : ℝ) : EReal) := by
  have e : Fin.ofNat 4096 t = ⟨t, ht⟩ := Fin.ext (Nat.mod_eq_of_lt ht)
  rw [least_of _ i (firstLeast_left h ht), left_eq h t ht.le, nearest, e, Order.raised_near big d (le_refl t)]

/-- The weights a round adds: one at the column it picks. -/
theorem chosen_left (h : Holds D i d) {t : Nat} (ht : t < 4096) (j : Fin 4096) :
    chosen (mark D) (left D t) (ix2 i j) = ((if j = pick d t then 1 else 0 : ℝ) : EReal) := by
  have h0 : mark D (ix2 i j) = ((if j = nearest d 0 then 1 else 0 : ℝ) : EReal) :=
    mark_of D i (firstLeast_left h (t := 0) (by norm_num)) j
  rw [chosen_read, h0, mark_of _ i (firstLeast_left h ht), within_of _ i (least_left h ht), ← EReal.coe_sub,
    ← EReal.coe_mul, ← EReal.coe_add, pick]
  congr 1
  by_cases hr : d (nearest d t) ≤ 5 / 2
  · simp only [if_pos hr]; ring
  · simp only [if_neg hr]; ring

/-- The weights of `t` rounds: how often each column is picked. -/
theorem weights_eq (h : Holds D i d) : ∀ t : Nat, t ≤ 4096 → ∀ j,
    weights D t (ix2 i j) = ((∑ u ∈ Finset.range t, if j = pick d u then 1 else 0 : ℝ) : EReal)
  | 0, _, j => zero_word
  | t + 1, ht, j => by
    have e : weights D (t + 1) (ix2 i j) = (weights D t (ix2 i j) : EReal) + chosen (mark D) (left D t) (ix2 i j) := by
      show addf (weights D t) (chosen (mark D) (left D t)) (ix2 i j) = _
      generalize weights D t = a; generalize chosen (mark D) (left D t) = b; rfl
    rw [e, weights_eq h t (by omega) j, chosen_left h ht, ← EReal.coe_add, Finset.sum_range_succ]

/-- The inverse weight of a round. -/
theorem inverse_left (h : Holds D i d) {t : Nat} (ht : t < 4096) :
    inverse (left D t) (ix2 i 0) = ((inv d t : ℝ) : EReal) :=
  inverse_of _ i (h.nonneg _) (least_left h ht)

/-- The sum of the inverse weights of `t` rounds. -/
theorem total_eq (h : Holds D i d) : ∀ t : Nat, t ≤ 4096 →
    total D t (ix2 i 0) = ((∑ u ∈ Finset.range t, inv d u : ℝ) : EReal)
  | 0, _ => zero_word
  | t + 1, ht => by
    have e : total D (t + 1) (ix2 i 0) = (total D t (ix2 i 0) : EReal) + inverse (left D t) (ix2 i 0) := by
      show addf (total D t) (inverse (left D t)) (ix2 i 0) = _
      generalize total D t = a; generalize inverse (left D t) = b; rfl
    rw [e, total_eq h t (by omega), inverse_left h ht, ← EReal.coe_add, Finset.sum_range_succ]

/-- The interpolation's weights over `t` rounds: at each column, the inverse weights of the rounds that pick it. -/
theorem blend_eq (h : Holds D i d) : ∀ t : Nat, t ≤ 4096 → ∀ j,
    blend D t (ix2 i j) = ((∑ u ∈ Finset.range t, inv d u * if j = pick d u then 1 else 0 : ℝ) : EReal)
  | 0, _, j => zero_word
  | t + 1, ht, j => by
    have e : blend D (t + 1) (ix2 i j) =
        (blend D t (ix2 i j) : EReal) + inverse (left D t) (ix2 i 0) * chosen (mark D) (left D t) (ix2 i j) := by
      show addf (blend D t) (mulf (broadcastTo S128x4096 (inverse (left D t)) broadcasts_S128x1_S128x4096)
        (chosen (mark D) (left D t))) (ix2 i j) = _
      generalize blend D t = a; generalize chosen (mark D) (left D t) = b; generalize inverse (left D t) = v
      pointwise
    rw [e, blend_eq h t (by omega) j, chosen_left h ht, inverse_left h ht, ← EReal.coe_mul, ← EReal.coe_add,
      Finset.sum_range_succ]

/-- A sum over the columns against the weights of ten picks is the sum over the picks. -/
theorem sum_count (t : Nat) (p : Nat → Fin 4096) (a : Nat → ℝ) (f : Fin 4096 → ℝ) :
    ∑ j, (∑ u ∈ Finset.range t, a u * if j = p u then 1 else 0) * f j = ∑ u ∈ Finset.range t, a u * f (p u) := by
  simp only [Finset.sum_mul]
  rw [Finset.sum_comm]
  refine Finset.sum_congr rfl fun u _ => ?_
  simp

end Cert.KernelIdeal.Weights
-- ==== Proof.Blocks.lean ====
module

public import proofs.«01_k».proof.Proof.Stages
public import proofs.«01_k».proof.Proof.Weights

/-! # What one block computes, in real numbers

A block of queries and the arrays it is compared with hold real numbers; then a stored block holds the curvatures of the
specification, or the losses of the specification. -/

@[expose] public section

set_option maxRecDepth 16384

noncomputable section

namespace Cert.KernelIdeal.Blocks

open Idealize.ShloMosaic Idealize.SL.Sem Cert.KernelIdeal Cert.KernelIdeal.Gen Cert.KernelIdeal.Rounds
  Cert.KernelIdeal.Weights
open Constants Spec

/-! ## The layout of a block of queries and of an array of points -/

theorem queries_read (v : Vec Ideal S1x128x3 .f32) (i : Fin 128) (c : Fin 3) : k0_pay2 v (ix2 i c) = v (ix3 0 i c) := by
  pointwise [k0_pay2]

theorem points_read (v : Vec Ideal S1x3x4096 .f32) (c : Fin 3) (j : Fin 4096) : k0_pay3 v (ix2 c j) = v (ix3 0 c j) := by
  pointwise [k0_pay3]

theorem rows_read (v : Vec Ideal S1x3x128 .f32) (c : Fin 3) (i : Fin 128) :
    shapeCast S3x128 v shapeCasts_S1x3x128_S3x128 (ix2 c i) = v (ix3 0 c i) := by
  pointwise

/-! ## Distances -/

section distances

variable (q : FVec Ideal S128x3 .f32) (r : FVec Ideal S3x4096 .f32)

theorem distances_read (i : Fin 128) (j : Fin 4096) : distances q r (ix2 i j) =
    ((q (ix2 i 0) : EReal) * q (ix2 i 0) + q (ix2 i 1) * q (ix2 i 1) + q (ix2 i 2) * q (ix2 i 2)
      + ((r (ix2 0 j) : EReal) * r (ix2 0 j) + r (ix2 1 j) * r (ix2 1 j) + r (ix2 2 j) * r (ix2 2 j)))
      - Ideal.ofBits .f32 0x40000000#32 *
        ((q (ix2 i 0) : EReal) * r (ix2 0 j) + q (ix2 i 1) * r (ix2 1 j) + q (ix2 i 2) * r (ix2 2 j)) := by
  pointwise [distances, k0_pay45]

variable {q r} {Q : Fin 3 → ℝ} {R : Cloud} {i : Fin 128}

/-- A row of distances holds the squared distances of the query to the points. -/
theorem distances_eq (hq : ∀ c, q (ix2 i c) = ((Q c : ℝ) : EReal)) (hr : ∀ c j, r (ix2 c j) = ((R j c : ℝ) : EReal))
    (j : Fin 4096) : distances q r (ix2 i j) = ((row Q R j : ℝ) : EReal) := by
  rw [distances_read]
  simp only [hq, hr, two_word, ← EReal.coe_mul, ← EReal.coe_add, ← EReal.coe_sub]
  congr 1
  simp only [row, Fin.sum_univ_three]
  ring

/-- Within twice the bound on the coordinates, every squared distance is less than the amount a round adds. -/
theorem row_lt (hQ : ∀ c, |Q c| ≤ 2 * limit) (hR : ∀ j c, |R j c| ≤ 2 * limit) (j : Fin 4096) : row Q R j < big := by
  have h : ∀ c, (Q c - R j c) ^ 2 ≤ (4 * limit) ^ 2 := fun c => by
    rw [← sq_abs]
    refine pow_le_pow_left₀ (abs_nonneg _) ?_ 2
    exact (abs_sub _ _).trans (by linarith [hQ c, hR j c])
  calc row Q R j ≤ ∑ _c : Fin 3, (4 * limit) ^ 2 := Finset.sum_le_sum fun c _ => h c
    _ < big := by
      simp only [Finset.sum_const, Finset.card_univ, Fintype.card_fin, limit, big]
      norm_num

theorem distances_holds (hq : ∀ c, q (ix2 i c) = ((Q c : ℝ) : EReal)) (hr : ∀ c j, r (ix2 c j) = ((R j c : ℝ) : EReal))
    (hQ : ∀ c, |Q c| ≤ 2 * limit) (hR : ∀ j c, |R j c| ≤ 2 * limit) : Holds (distances q r) i (row Q R) where
  read := distances_eq hq hr
  nonneg := row_nonneg Q R
  lt := row_lt hQ hR

end distances

/-! ## Curvatures -/

section curvature

variable (w : FVec Ideal S128x4096 .f32) (r : FVec Ideal S3x4096 .f32) (q : FVec Ideal S128x3 .f32)

theorem curvature_read (c : Fin 3) (i : Fin 128) : curvature w r q (ix3 0 c i) =
    Ideal.div ((∑ x, (w (ix2 i x) : EReal) * r (ix2 c x)) - Ideal.ofBits .f32 0x41200000#32 * q (ix2 i c))
      (Ideal.ofBits .f32 0x41100000#32) := by
  match c with
  | 0 => pointwise [curvature, curvatureRow]
  | 1 => pointwise [curvature, curvatureRow]
  | 2 => pointwise [curvature, curvatureRow]

end curvature

/-- A stored curvature is the curvature of the specification. -/
theorem curvature_eq {D : FVec Ideal S128x4096 .f32} {i : Fin 128} {d : Fin 4096 → ℝ} (h : Holds D i d)
    {r : FVec Ideal S3x4096 .f32} {q : FVec Ideal S128x3 .f32} {c : Fin 3} {f : Fin 4096 → ℝ} {a : ℝ}
    (hr : ∀ j, r (ix2 c j) = ((f j : ℝ) : EReal)) (hq : q (ix2 i c) = ((a : ℝ) : EReal)) :
    curvature (weights D 10) r q (ix3 0 c i) = ((curv d f a : ℝ) : EReal) := by
  rw [curvature_read, hq]
  simp only [hr, weights_eq h 10 (by norm_num), ten_word, nine_word, ← EReal.coe_mul, sum_real, ← EReal.coe_sub]
  rw [div_real _ _ (by norm_num), curv]
  have := sum_count 10 (pick d) (fun _ => 1) f
  simp only [one_mul] at this
  rw [this]

/-! ## Losses -/

section losses

variable (a : FVec Ideal S128x4096 .f32) (n : FVec Ideal S128x1 .f32) (c2 : FVec Ideal S3x4096 .f32)
  (c1 : FVec Ideal S3x128 .f32)

/-- One coordinate's difference of the interpolated and the moved curvature. -/
def difference (i : Fin 128) (c : Fin 3) : EReal :=
  Ideal.div (∑ x, (a (ix2 i x) : EReal) * c2 (ix2 c x)) (n (ix2 i 0)) - c1 (ix2 c i)

theorem losses_read (i : Fin 128) : losses a n c2 c1 (ix3 0 i 0) =
    Ideal.ofBits .f32 0x00000000#32 + difference a n c2 c1 i 0 * difference a n c2 c1 i 0
      + difference a n c2 c1 i 1 * difference a n c2 c1 i 1 + difference a n c2 c1 i 2 * difference a n c2 c1 i 2 := by
  pointwise [losses, gap, difference]

end losses

/-- A stored loss is the sum of the squared differences of the specification. -/
theorem losses_eq {D : FVec Ideal S128x4096 .f32} {i : Fin 128} {d : Fin 4096 → ℝ} (h : Holds D i d)
    {c2 : FVec Ideal S3x4096 .f32} {c1 : FVec Ideal S3x128 .f32} {f : Fin 4096 → Fin 3 → ℝ} {g : Fin 3 → ℝ}
    (h2 : ∀ c j, c2 (ix2 c j) = ((f j c : ℝ) : EReal)) (h1 : ∀ c, c1 (ix2 c i) = ((g c : ℝ) : EReal)) :
    losses (blend D 5) (total D 5) c2 c1 (ix3 0 i 0) =
      ((∑ c, (mix d (fun j => f j c) - g c) ^ 2 : ℝ) : EReal) := by
  have hd : ∀ c, difference (blend D 5) (total D 5) c2 c1 i c = ((mix d (fun j => f j c) - g c : ℝ) : EReal) := fun c => by
    rw [difference, h1, total_eq h 5 (by norm_num)]
    simp only [h2, blend_eq h 5 (by norm_num), ← EReal.coe_mul, sum_real]
    rw [div_real _ _ (sum_inv_pos h.nonneg).ne', ← EReal.coe_sub, mix, sum_count 5 (pick d) (inv d) fun j => f j c]
  rw [losses_read, hd, hd, hd, zero_word]
  simp only [← EReal.coe_mul, ← EReal.coe_add]
  congr 1
  rw [Fin.sum_univ_three]
  ring

end Cert.KernelIdeal.Blocks
-- ==== Proof.Entry.lean ====
module

public import proofs.«01_k».proof.Proof.Gen.KernelIdeal.Frame
public import Idealize.ShloMosaic.Lib.Claim
public import Idealize.ShloMosaic.Lib.Pointwise

/-! # The arrays the two launches find, and the host's last lines

Before the first launch the host adds the flow to the source cloud and transposes the three clouds; after the second it
adds up the losses and divides by the number of clouds. -/

@[expose] public section

set_option maxRecDepth 16384

noncomputable section

namespace Cert.KernelIdeal.Entry

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg) (c : Dev nD)

/-- The source cloud, as launched. -/
abbrev source : FVec F S4x4096x3 .f32 := m ((c : Thread nD τ).loc main_arg0)
/-- The target cloud, as launched. -/
abbrev target : FVec F S4x4096x3 .f32 := m ((c : Thread nD τ).loc main_arg1)
/-- The flow, as launched. -/
abbrev flow : FVec F S4x4096x3 .f32 := m ((c : Thread nD τ).loc main_arg2)

/-- The coordinates of a cloud as rows. -/
abbrev flip (x : FVec F S4x4096x3 .f32) : FVec F S4x3x4096 .f32 :=
  transpose S4x3x4096 [0, 2, 1] x transposes_S4x4096x3_S4x3x4096_0_2_1

theorem entry_target : W1 m ρ c (Proc.devRef .tc main_arg1) = target m c := W1_args m ρ c main_arg1 (by decide)
theorem entry_source : W1 m ρ c (Proc.devRef .tc main_arg0) = source m c := W1_args m ρ c main_arg0 (by decide)
theorem entry_moved : W1 m ρ c (Proc.devRef .tc main_call0_v0) = addf (source m c) (flow m c) := by
  after_results; rfl
theorem entry_targetRows : W1 m ρ c (Proc.devRef .tc main_call0_v1) = flip (target m c) := by
  after_results; rfl
theorem entry_sourceRows : W1 m ρ c (Proc.devRef .tc main_call0_v2) = flip (source m c) := by
  after_results; rfl
theorem entry_movedRows : W1 m ρ c (Proc.devRef .tc main_call0_v3) = flip (addf (source m c) (flow m c)) := by
  after_results; rfl

/-- The second launch finds the moved cloud as the first did, -/
theorem second_moved : W2 m ρ c (Proc.devRef .tc main_call0_v0) = addf (source m c) (flow m c) :=
  (W2_of m ρ c main_call0_v0 (by decide)).trans (entry_moved m ρ c)
/-- and the rows of the target cloud. -/
theorem second_targetRows : W2 m ρ c (Proc.devRef .tc main_call0_v1) = flip (target m c) :=
  (W2_of m ρ c main_call0_v1 (by decide)).trans (entry_targetRows m ρ c)

/-- The result: the sum of the losses over the number of clouds. -/
theorem result : W4 m ρ c (Proc.devRef .tc main_v0) =
    Host.divf (Host.reduceAdd (W3 m ρ c (Proc.devRef .tc main_call0_v5) : FVec F S4x4096x1 .f32)
      (constant S_ .f32 0x00000000#32) reducesTo_S4x4096x1_S_d0_1_2 h_S_) (constant S_ .f32 0x40800000#32) := by
  after_results; rfl

end Cert.KernelIdeal.Entry
-- ==== Proof.Arrays.lean ====
module

public import proofs.«01_k».proof.Proof.Blocks
public import proofs.«01_k».proof.Proof.Entry

/-! # What the arrays hold after the two launches -/

@[expose] public section

set_option maxRecDepth 16384

noncomputable section

namespace Cert.KernelIdeal.Arrays

open Idealize.ShloMosaic Idealize.ShloMosaic.TcCoe Idealize.SL.Sem Cert.KernelIdeal Cert.KernelIdeal.Gen
open Idealize.ShloMosaic.Pipeline (Dat)
open Rounds Weights Blocks Entry Constants Spec

/-- The array holds the coordinates of four real clouds, within twice the bound. -/
structure Clouds (A : FVec Ideal S4x4096x3 .f32) (a : Fin 4 → Cloud) : Prop where
  read : ∀ b i k, A (ix3 b i k) = ((a b i k : ℝ) : EReal)
  bound : ∀ b i k, |a b i k| ≤ 2 * limit

variable (m : (ℓ : Loc nD τ sig) → Buf (Elt Ideal) ℓ) (ρ : Dev nD → PrngReg) (c : Dev nD)

theorem idx0 : ∀ t : Fin cfg0.N, t.val / 32 < 4 ∧ win0_0.index t = ![t.val / 32, t.val % 32, 0] ∧ win0_1.index t = ![t.val / 32, 0, 0]
    ∧ win0_2.index t = ![t.val / 32, t.val % 32, 0] ∧ win0_3.index t = ![t.val / 32, 0, 0]
    ∧ win0_4.index t = ![t.val / 32, t.val % 32, 0] ∧ win0_5.index t = ![t.val / 32, 0, 0]
    ∧ win0_6.index t = ![t.val / 32, 0, t.val % 32] ∧ win0_7.index t = ![t.val / 32, 0, t.val % 32] :=
  (by decide +kernel : ∀ t : Fin grid0.N, _)

theorem idx1 : ∀ t : Fin cfg1.N, t.val / 32 < 4 ∧ win1_0.index t = ![t.val / 32, t.val % 32, 0] ∧ win1_1.index t = ![t.val / 32, 0, 0]
    ∧ win1_2.index t = ![t.val / 32, 0, 0] ∧ win1_3.index t = ![t.val / 32, 0, t.val % 32]
    ∧ win1_4.index t = ![t.val / 32, t.val % 32, 0] :=
  (by decide +kernel : ∀ t : Fin grid1.N, _)

/-- The cloud a point of the grid works on. -/
def batch (t : Nat) : Fin 4 := ⟨t / 32 % 4, Nat.mod_lt _ (by norm_num)⟩
/-- The query of the cloud that row `i` of the block stands for. -/
def query (t : Nat) (i : Fin 128) : Fin 4096 := ⟨t % 32 * 128 + i.val, by have := i.isLt; omega⟩

/-! ## The blocks of the first launch -/

section first
variable (t : Fin cfg0.N)

theorem target_block (i : Fin 128) (k : Fin 3) :
    iblk0 (V1 m ρ) c 0 t (ix3 0 i k) = target m c (ix3 (batch t.val) (query t.val i) k) := by
  rw [← entry_target m ρ c]
  have := (idx0 t).1
  blk_ext [iblk0, idx0 t, batch, query]

theorem targetRows_block (k : Fin 3) (j : Fin 4096) :
    iblk0 (V1 m ρ) c 1 t (ix3 0 k j) = flip (target m c) (ix3 (batch t.val) k j) := by
  rw [← entry_targetRows m ρ c]
  have := (idx0 t).1
  blk_ext [iblk0, idx0 t, batch]

theorem source_block (i : Fin 128) (k : Fin 3) :
    iblk0 (V1 m ρ) c 2 t (ix3 0 i k) = source m c (ix3 (batch t.val) (query t.val i) k) := by
  rw [← entry_source m ρ c]
  have := (idx0 t).1
  blk_ext [iblk0, idx0 t, batch, query]

theorem sourceRows_block (k : Fin 3) (j : Fin 4096) :
    iblk0 (V1 m ρ) c 3 t (ix3 0 k j) = flip (source m c) (ix3 (batch t.val) k j) := by
  rw [← entry_sourceRows m ρ c]
  have := (idx0 t).1
  blk_ext [iblk0, idx0 t, batch]

theorem moved_block (i : Fin 128) (k : Fin 3) :
    iblk0 (V1 m ρ) c 4 t (ix3 0 i k) = addf (source m c) (flow m c) (ix3 (batch t.val) (query t.val i) k) := by
  rw [← entry_moved m ρ c]
  have := (idx0 t).1
  blk_ext [iblk0, idx0 t, batch, query]

theorem movedRows_block (k : Fin 3) (j : Fin 4096) :
    iblk0 (V1 m ρ) c 5 t (ix3 0 k j) = flip (addf (source m c) (flow m c)) (ix3 (batch t.val) k j) := by
  rw [← entry_movedRows m ρ c]
  have := (idx0 t).1
  blk_ext [iblk0, idx0 t, batch]

end first

/-- Coordinates as rows, read at one position. -/
theorem flip_read (x : FVec Ideal S4x4096x3 .f32) (b : Fin 4) (k : Fin 3) (j : Fin 4096) :
    flip x (ix3 b k j) = x (ix3 b j k) := by
  pointwise

/-- The numbers of a family of clouds `f`, as the array that holds their coordinates as rows. -/
def rows (f : Fin 4 → Fin 4096 → Fin 3 → ℝ) : FVec Ideal S4x3x4096 .f32 := fun x => ((f (x 0) (x 2) (x 1) : ℝ) : EReal)

theorem rows_at (f : Fin 4 → Fin 4096 → Fin 3 → ℝ) {x : S4x3x4096.Idx} {b : Fin 4} {k : Fin 3} {j : Fin 4096}
    (h : x = ix3 b k j) : rows f x = ((f b j k : ℝ) : EReal) := by rw [h]; rfl

/-- The losses `f` of the points of a family of clouds, as an array. -/
def column (f : Fin 4 → Fin 4096 → ℝ) : FVec Ideal S4x4096x1 .f32 := fun x => ((f (x 0) (x 1) : ℝ) : EReal)

theorem column_at (f : Fin 4 → Fin 4096 → ℝ) {x : S4x4096x1.Idx} {b : Fin 4} {j : Fin 4096}
    (h : x = ix3 b j 0) : column f x = ((f b j : ℝ) : EReal) := by rw [h]; rfl

/-! ## The curvatures -/

variable {m c} {pt ps wp : Fin 4 → Cloud}

/-- After the first launch its first result holds the curvatures of the target cloud. -/
theorem curvTarget_array (ht : Clouds (target m c) pt) :
    (dat0 (V1 m ρ) c).arrAt 6 cfg0.N = rows fun b => curvTarget (pt b) := by
  refine Dat.arrAt_eq_of_covers (dat0 (V1 m ρ) c) 6 _ (by decide +kernel) fun t _ y => ?_
  blk_simp
  rw [after0_6, Stages.block_first]
  idx_vars y
  have hb := (idx0 t).1
  obtain rfl : y0 = 0 := Subsingleton.elim _ _
  rw [rows_at _ (b := batch t.val) (k := y1) (j := query t.val y2) (by blk_ext [idx0 t, batch, query])]
  refine curvature_eq (d := row (pt (batch t.val) (query t.val y2)) (pt (batch t.val))) (distances_holds (fun k => ?_) (fun k j => ?_)
    (fun k => ht.bound _ _ _) fun j k => ht.bound _ _ _) (fun j => ?_) ?_
  · rw [queries_read, target_block, ht.read]
  · rw [points_read, targetRows_block, flip_read, ht.read]
  · rw [points_read, targetRows_block, flip_read, ht.read]
  · rw [queries_read, target_block, ht.read]

/-- After the first launch its second result holds the curvatures of the moved cloud. -/
theorem curvMoved_array (hs : Clouds (source m c) ps) (hw : Clouds (addf (source m c) (flow m c)) wp) :
    (dat0 (V1 m ρ) c).arrAt 7 cfg0.N = rows fun b => curvMoved (ps b) (wp b) := by
  refine Dat.arrAt_eq_of_covers (dat0 (V1 m ρ) c) 7 _ (by decide +kernel) fun t _ y => ?_
  blk_simp
  rw [after0_7, Stages.block_second]
  idx_vars y
  have hb := (idx0 t).1
  obtain rfl : y0 = 0 := Subsingleton.elim _ _
  rw [rows_at _ (b := batch t.val) (k := y1) (j := query t.val y2) (by blk_ext [idx0 t, batch, query])]
  refine curvature_eq (d := row (ps (batch t.val) (query t.val y2)) (ps (batch t.val))) (distances_holds (fun k => ?_) (fun k j => ?_)
    (fun k => hs.bound _ _ _) fun j k => hs.bound _ _ _) (fun j => ?_) ?_
  · rw [queries_read, source_block, hs.read]
  · rw [points_read, sourceRows_block, flip_read, hs.read]
  · rw [points_read, movedRows_block, flip_read, hw.read]
  · rw [queries_read, moved_block, hw.read]

/-! ## The blocks of the second launch -/

section second
variable (t : Fin cfg1.N)

theorem moved_second (i : Fin 128) (k : Fin 3) :
    iblk1 (V2 m ρ) c 0 t (ix3 0 i k) = addf (source m c) (flow m c) (ix3 (batch t.val) (query t.val i) k) := by
  rw [← second_moved m ρ c]
  have := (idx1 t).1
  blk_ext [iblk1, idx1 t, batch, query]

theorem targetRows_second (k : Fin 3) (j : Fin 4096) :
    iblk1 (V2 m ρ) c 1 t (ix3 0 k j) = flip (target m c) (ix3 (batch t.val) k j) := by
  rw [← second_targetRows m ρ c]
  have := (idx1 t).1
  blk_ext [iblk1, idx1 t, batch]

theorem curvTarget_second (ht : Clouds (target m c) pt) (k : Fin 3) (j : Fin 4096) :
    iblk1 (V2 m ρ) c 2 t (ix3 0 k j) = ((curvTarget (pt (batch t.val)) j k : ℝ) : EReal) := by
  rw [← rows_at (fun b => curvTarget (pt b)) (x := ix3 (batch t.val) k j) rfl, ← curvTarget_array ρ ht, ← W2_arr]
  have := (idx1 t).1
  blk_ext [iblk1, idx1 t, batch]

theorem curvMoved_second (hs : Clouds (source m c) ps) (hw : Clouds (addf (source m c) (flow m c)) wp)
    (k : Fin 3) (i : Fin 128) :
    iblk1 (V2 m ρ) c 3 t (ix3 0 k i) = ((curvMoved (ps (batch t.val)) (wp (batch t.val)) (query t.val i) k : ℝ) : EReal) := by
  rw [← rows_at (fun b => curvMoved (ps b) (wp b)) (x := ix3 (batch t.val) k (query t.val i)) rfl,
    ← curvMoved_array ρ hs hw, ← W2_arr]
  have := (idx1 t).1
  blk_ext [iblk1, idx1 t, batch, query]

end second

/-- After the second launch its result holds the losses of the points. -/
theorem losses_array (ht : Clouds (target m c) pt) (hs : Clouds (source m c) ps)
    (hw : Clouds (addf (source m c) (flow m c)) wp) :
    (dat1 (V2 m ρ) c).arrAt 4 cfg1.N = column fun b => pointLoss (pt b) (ps b) (wp b) := by
  refine Dat.arrAt_eq_of_covers (dat1 (V2 m ρ) c) 4 _ (by decide +kernel) fun t _ y => ?_
  blk_simp
  rw [after1_4, Stages.block_loss]
  idx_vars y
  have hb := (idx1 t).1
  obtain rfl : y0 = 0 := Subsingleton.elim _ _
  obtain rfl : y2 = 0 := Subsingleton.elim _ _
  rw [column_at _ (b := batch t.val) (j := query t.val y1) (by blk_ext [idx1 t, batch, query])]
  refine losses_eq (d := row (wp (batch t.val) (query t.val y1)) (pt (batch t.val))) (distances_holds (fun k => ?_) (fun k j => ?_)
    (fun k => hw.bound _ _ _) fun j k => ht.bound _ _ _) (fun k j => ?_) fun k => ?_
  · rw [queries_read, moved_second, hw.read]
  · rw [points_read, targetRows_second, flip_read, ht.read]
  · rw [points_read, curvTarget_second ρ t ht]
  · rw [rows_read, curvMoved_second ρ t hs hw]

end Cert.KernelIdeal.Arrays
-- ==== Proof.Total.lean ====
module

public import proofs.«01_k».proof.Proof.Arrays

/-! # The kernel's result

At clouds of real numbers the last host line leaves the loss of the specification. -/

@[expose] public section

set_option maxRecDepth 16384

noncomputable section

namespace Cert.KernelIdeal.Total

open Idealize.ShloMosaic Idealize.ShloMosaic.TcCoe Idealize.SL.Sem
open Cert.KernelIdeal Cert.KernelIdeal.Gen
open Entry Arrays Constants Spec

/-- The sum over the losses and the quotient, read. -/
theorem mean_read (x : FVec Ideal S4x4096x1 .f32) (i : S_.Idx) :
    Host.divf (Host.reduceAdd x (constant S_ .f32 0x00000000#32) reducesTo_S4x4096x1_S_d0_1_2 h_S_)
      (constant S_ .f32 0x40800000#32) i =
    Ideal.div (∑ b : Fin 4, ∑ j : Fin 4096, ∑ k : Fin 1, (x (ix3 b j k) : EReal)) (Ideal.ofBits .f32 0x40800000#32) := by
  pointwise

variable (m : (ℓ : Loc nD τ sig) → Buf (Elt Ideal) ℓ) (ρ : Dev nD → PrngReg) (c : Dev nD)

/-- The result after the last host line, at clouds of real numbers. -/
theorem result_eq {pt ps wp : Fin 4 → Cloud} (ht : Clouds (target m c) pt) (hs : Clouds (source m c) ps)
    (hw : Clouds (addf (source m c) (flow m c)) wp) :
    W4 m ρ c (Proc.devRef .tc main_v0) = fun _ => ((loss pt ps wp : ℝ) : EReal) := by
  have e : W3 m ρ c (Proc.devRef .tc main_call0_v5) = column fun b => pointLoss (pt b) (ps b) (wp b) :=
    (W3_arr m ρ c 4).trans (losses_array ρ ht hs hw)
  rw [result, e]
  funext i
  rw [mean_read, four_word]
  simp only [column_at _ (Eq.refl (ix3 _ _ 0)), Fin.sum_univ_one, Finset.univ_unique, Finset.sum_singleton,
    Fin.default_eq_zero, sum_real]
  rw [div_real _ _ (by norm_num), loss]

end Cert.KernelIdeal.Total
-- ==== Proof.RefStages.lean ====
module

public import proofs.«01_k».proof.Proof.Gen.ReferenceIdeal.Read

/-! # The reference in stages

The reference finds neighbours three times. This module names what it computes each time - the distances between two
clouds, the positions of the neighbours, the points at those positions - and states that the reference's values are
these stages one after another. -/

@[expose] public section

set_option maxRecDepth 16384

noncomputable section

namespace Cert.ReferenceIdeal.RefStages

open Cert.ReferenceIdeal Cert.ReferenceIdeal.Gen Cert.ReferenceIdeal.Read Idealize.ShloMosaic

variable {F : FTy → Type} [FloatOps F]

/-- The squared length of every point. -/
def lengths (q : FVec F S4x4096x3 .f32) : FVec F S4x4096 .f32 :=
  Host.reduceAdd (mulf q q) (constant S_ .f32 0x00000000#32) reducesTo_S4x4096x3_S4x4096_d2 h_S_

/-- The squared distances of the points of `q` to the points of `r`. -/
def pairs (q r : FVec F S4x4096x3 .f32) : FVec F S4x4096x4096 .f32 :=
  subf
    (addf
      (broadcastInDim S4x4096x4096 ![0, 1, 2] bcast_S4x4096x1_S4x4096x4096_0_1_2
        (broadcastInDim S4x4096x1 ![0, 1] bcast_S4x4096_S4x4096x1_0_1 (lengths q)))
      (broadcastInDim S4x4096x4096 ![0, 1, 2] bcast_S4x1x4096_S4x4096x4096_0_1_2
        (broadcastInDim S4x1x4096 ![0, 2] bcast_S4x4096_S4x1x4096_0_2 (lengths r))))
    (mulf (broadcastInDim S4x4096x4096 ![] bcast_S_S4x4096x4096 (constant S_ .f32 0x40000000#32))
      (Host.dotGeneral dot_S4x4096x3_S4x4096x3_S4x4096x4096_2_2_1_1_0_0 none q r))

/-! ## Ten neighbours -/

/-- The ten greatest negated distances of each row, with their positions. -/
def top10 (d : FVec F S4x4096x4096 .f32) : FVec F S4x4096x10 .f32 × IVec S4x4096x10 32 :=
  Host.topK S4x4096x10 2 (FloatOps.cmpfTotal .gt) (Host.negf d) sliceFits_S4x4096x4096_S4x4096x10

/-- The positions, those farther than the radius replaced by the first of the row. -/
def index10 (n : FVec F S4x4096x10 .f32) (p : IVec S4x4096x10 32) : IVec S4x4096x10 32 :=
  select (cmpf .ogt (Host.negf n) (broadcastInDim S4x4096x10 ![] bcast_S_S4x4096x10 (constant S_ .f32 0x40200000#32)))
    (broadcastInDim S4x4096x10 ![0, 1, 2] bcast_S4x4096x1_S4x4096x10_0_1_2
      (extractStridedSlice S4x4096x1 ![0, 0, 0] p slices_S4x4096x10_S4x4096x1_0_0_0)) p

/-- Positions below zero counted from the end. -/
def wrap10 (p : IVec S4x4096x10 32) : IVec S4x4096x10 32 :=
  select (cmpi .slt p (broadcastInDim S4x4096x10 ![] bcast_S_S4x4096x10 (constantI S_ 32 0#32)))
    (addi p (broadcastInDim S4x4096x10 ![] bcast_S_S4x4096x10 (constantI S_ 32 4096#32))) p

/-- The points of `x` at the positions. -/
def take10 (x : FVec F S4x4096x3 .f32) (p : IVec S4x4096x10 32) : FVec F S4x4096x10x3 .f32 :=
  Host.gather gather_S4x4096x3_S4x4096x10x1_S4x4096x10x3_3_1_0_0_1_3_113 x
    (broadcastInDim S4x4096x10x1 ![0, 1, 2] bcast_S4x4096x10_S4x4096x10x1_0_1_2 p)

/-- The curvature: the differences of the taken points and the query added up, over nine. -/
def bend (g : FVec F S4x4096x10x3 .f32) (q : FVec F S4x4096x3 .f32) : FVec F S4x4096x3 .f32 :=
  Host.divf
    (Host.reduceAdd
      (subf g (broadcastInDim S4x4096x10x3 ![0, 1, 2, 3] bcast_S4x4096x1x3_S4x4096x10x3_0_1_2_3
        (broadcastInDim S4x4096x1x3 ![0, 1, 3] bcast_S4x4096x3_S4x4096x1x3_0_1_3 q)))
      (constant S_ .f32 0x00000000#32) reducesTo_S4x4096x10x3_S4x4096x3_d2 h_S_)
    (broadcastInDim S4x4096x3 ![] bcast_S_S4x4096x3 (constant S_ .f32 0x41100000#32))

/-- The curvature of the points `x` among the neighbours that the distances `d` give. -/
def bend10 (d : FVec F S4x4096x4096 .f32) (x : FVec F S4x4096x3 .f32) : FVec F S4x4096x3 .f32 :=
  bend (take10 x (wrap10 (index10 (top10 d).1 (top10 d).2))) x

/-! ## Five neighbours -/

/-- The five greatest negated distances of each row, with their positions. -/
def top5 (d : FVec F S4x4096x4096 .f32) : FVec F S4x4096x5 .f32 × IVec S4x4096x5 32 :=
  Host.topK S4x4096x5 2 (FloatOps.cmpfTotal .gt) (Host.negf d) sliceFits_S4x4096x4096_S4x4096x5

/-- The positions, those farther than the radius replaced by the first of the row. -/
def index5 (n : FVec F S4x4096x5 .f32) (p : IVec S4x4096x5 32) : IVec S4x4096x5 32 :=
  select (cmpf .ogt (Host.negf n) (broadcastInDim S4x4096x5 ![] bcast_S_S4x4096x5 (constant S_ .f32 0x40200000#32)))
    (broadcastInDim S4x4096x5 ![0, 1, 2] bcast_S4x4096x1_S4x4096x5_0_1_2
      (extractStridedSlice S4x4096x1 ![0, 0, 0] p slices_S4x4096x5_S4x4096x1_0_0_0)) p

/-- Positions below zero counted from the end. -/
def wrap5 (p : IVec S4x4096x5 32) : IVec S4x4096x5 32 :=
  select (cmpi .slt p (broadcastInDim S4x4096x5 ![] bcast_S_S4x4096x5 (constantI S_ 32 0#32)))
    (addi p (broadcastInDim S4x4096x5 ![] bcast_S_S4x4096x5 (constantI S_ 32 4096#32))) p

/-- The points of `x` at the positions. -/
def take5 (x : FVec F S4x4096x3 .f32) (p : IVec S4x4096x5 32) : FVec F S4x4096x5x3 .f32 :=
  Host.gather gather_S4x4096x3_S4x4096x5x1_S4x4096x5x3_3_1_0_0_1_3_113 x
    (broadcastInDim S4x4096x5x1 ![0, 1, 2] bcast_S4x4096x5_S4x4096x5x1_0_1_2 p)

/-- The inverses of the distances and a small amount. -/
def inverses (n : FVec F S4x4096x5 .f32) : FVec F S4x4096x5 .f32 :=
  Host.divf (broadcastInDim S4x4096x5 ![] bcast_S_S4x4096x5 (constant S_ .f32 0x3F800000#32))
    (addf (Host.negf n) (broadcastInDim S4x4096x5 ![] bcast_S_S4x4096x5 (constant S_ .f32 0x322BCC77#32)))

/-- The inverses over their sum. -/
def shares (u : FVec F S4x4096x5 .f32) : FVec F S4x4096x5 .f32 :=
  Host.divf u (broadcastInDim S4x4096x5 ![0, 1, 2] bcast_S4x4096x1_S4x4096x5_0_1_2
    (broadcastInDim S4x4096x1 ![0, 1] bcast_S4x4096_S4x4096x1_0_1
      (Host.reduceAdd u (constant S_ .f32 0x00000000#32) reducesTo_S4x4096x5_S4x4096_d2 h_S_)))

/-- The taken points added up, each times its share. -/
def mixed (s : FVec F S4x4096x5 .f32) (g : FVec F S4x4096x5x3 .f32) : FVec F S4x4096x3 .f32 :=
  Host.reduceAdd
    (mulf (broadcastInDim S4x4096x5x3 ![0, 1, 2, 3] bcast_S4x4096x5x1_S4x4096x5x3_0_1_2_3
      (shapeCast S4x4096x5x1 s shapeCasts_S4x4096x5_S4x4096x5x1)) g)
    (constant S_ .f32 0x00000000#32) reducesTo_S4x4096x5x3_S4x4096x3_d2 h_S_

/-- The interpolation of `x` at the neighbours that the distances `d` give. -/
def mixed5 (d : FVec F S4x4096x4096 .f32) (x : FVec F S4x4096x3 .f32) : FVec F S4x4096x3 .f32 :=
  mixed (shares (inverses (top5 d).1)) (take5 x (wrap5 (index5 (top5 d).1 (top5 d).2)))

/-! ## The whole -/

/-- The squared differences added up over everything, over the number of clouds. -/
def mean (e : FVec F S4x4096x3 .f32) : FVec F S_ .f32 :=
  Host.divf
    (Host.reduceAdd (Host.reduceAdd (Host.reduceAdd (mulf e e) (constant S_ .f32 0x00000000#32)
      reducesTo_S4x4096x3_S4x4096_d2 h_S_) (constant S_ .f32 0x00000000#32) reducesTo_S4x4096_S4_d1 h_S_)
      (constant S_ .f32 0x00000000#32) reducesTo_S4_S_d0 h_S_)
    (constant S_ .f32 0x40800000#32)

variable (x0 x1 x2 : FVec F S4x4096x3 .f32)

theorem target_stage : val_main_v36 x1 = bend10 (pairs (val_main_v4 x1) (val_main_v4 x1)) (val_main_v4 x1) := rfl

theorem moved_stage : val_main_v70 x0 x2 =
    bend10 (pairs (val_main_v38 x0) (val_main_v38 x0)) (val_main_v37 x0 x2) := rfl

theorem mixed_stage : val_main_v114 x0 x1 x2 =
    mixed5 (pairs (val_main_v71 x0 x2) (val_main_v72 x1)) (val_main_v36 x1) := rfl

theorem loss_stage : val_main_v120 x0 x1 x2 = mean (subf (val_main_v114 x0 x1 x2) (val_main_v70 x0 x2)) := rfl

end Cert.ReferenceIdeal.RefStages
-- ==== Proof.Pick.lean ====
module

public import proofs.«01_k».proof.Proof.Constants
public import Idealize.ShloMosaic.Lib.Pointwise
public import Idealize.ShloMosaic.Lib.Pipeline.Value

/-! # The greatest entries of a row, and points taken at positions, read at one index

For an array of `4` batches of `4096` rows: where the `k`-th greatest entry of a row of negated real distances stands,
and what a batched take of points at given positions reads. -/

@[expose] public section

set_option maxRecDepth 16384

noncomputable section

namespace Cert.Pick

open Idealize.ShloMosaic Constants

/-- The shape of the distances, -/
abbrev Square : Shape := ⟨3, ![4, 4096, 4096]⟩
/-- and of the `K` entries taken from each row. -/
abbrev Few (K : Nat) : Shape := ⟨3, ![4, 4096, K]⟩

section greatest
variable {α : Type} {K : Nat}

/-- Where the `k`-th greatest entry of a row stands. -/
def place (gt : α → α → BitVec 1) (x : Square.Idx → α) (b : Fin 4) (i : Fin 4096) (k : Fin 4096) : Fin 4096 :=
  sortedFrom (fun j j' => gt (x (ix3 b i j)) (x (ix3 b i j')) == 1#1) k

theorem along_last (b : Fin 4) (i j j' : Fin 4096) : (ix3 b i j : Square.Idx).along 2 j' = ix3 b i j' := by
  unfold Shape.Idx.along
  funext a
  match a with
  | ⟨0, _⟩ => rfl
  | ⟨1, _⟩ => rfl
  | ⟨2, _⟩ => rfl

theorem place_along (gt : α → α → BitVec 1) (x : Square.Idx → α) (b : Fin 4) (i k : Fin 4096) :
    sortedFrom (fun j j' : Fin 4096 =>
      gt (x ((ix3 b i k : Square.Idx).along 2 j)) (x ((ix3 b i k : Square.Idx).along 2 j')) == 1#1) k = place gt x b i k :=
  congrArg (fun f => sortedFrom f k) (funext fun j => funext fun j' =>
    congrArg₂ (fun u v => gt (x u) (x v) == 1#1) (along_last b i k j) (along_last b i k j'))

theorem topK_value (gt : α → α → BitVec 1) (x : Square.Idx → α) (h : Square.Slices (fun _ => 0) (Few K))
    (b : Fin 4) (i : Fin 4096) (k : Fin K) (hk : k.val < 4096) :
    (Host.topK (Few K) 2 gt x h).1 (ix3 b i k) = x (ix3 b i (place gt x b i ⟨k.val, hk⟩)) := by
  unfold Host.topK
  dsimp only
  refine (extractStridedSlice_apply _ _ h (ix3 b i k) (ix3 b i ⟨k.val, hk⟩) fun a => ?_).trans ?_
  · match a with
    | ⟨0, _⟩ => exact (Nat.zero_add _).symm
    | ⟨1, _⟩ => exact (Nat.zero_add _).symm
    | ⟨2, _⟩ => exact (Nat.zero_add _).symm
  · unfold Host.sort2
    rw [dif_pos (by decide : 2 < Square.rank)]
    exact congrArg x ((along_last b i _ _).trans (congrArg (ix3 b i) (place_along gt x b i ⟨k.val, hk⟩)))

theorem topK_position (gt : α → α → BitVec 1) (x : Square.Idx → α) (h : Square.Slices (fun _ => 0) (Few K))
    (b : Fin 4) (i : Fin 4096) (k : Fin K) (hk : k.val < 4096) :
    (Host.topK (Few K) 2 gt x h).2 (ix3 b i k) = BitVec.ofNat 32 (place gt x b i ⟨k.val, hk⟩).val := by
  unfold Host.topK
  dsimp only
  refine (extractStridedSlice_apply _ _ h (ix3 b i k) (ix3 b i ⟨k.val, hk⟩) fun a => ?_).trans ?_
  · match a with
    | ⟨0, _⟩ => exact (Nat.zero_add _).symm
    | ⟨1, _⟩ => exact (Nat.zero_add _).symm
    | ⟨2, _⟩ => exact (Nat.zero_add _).symm
  · unfold Host.sort2
    rw [dif_pos (by decide : 2 < Square.rank)]
    exact congrArg (fun j : Fin 4096 => BitVec.ofNat 32 j.val)
      ((congrFun (along_last b i _ _) 2).trans (place_along gt x b i ⟨k.val, hk⟩))

end greatest

/-- Among negated real distances the `k`-th greatest entry stands where the `k`-th nearest point does. -/
theorem place_nearest (x : FVec Ideal Square .f32) (b : Fin 4) (i : Fin 4096) (d : Fin 4096 → ℝ)
    (h : ∀ j, x (ix3 b i j) = ((-d j : ℝ) : EReal)) (t : Nat) (ht : t < 4096) :
    place (FloatOps.cmpfTotal (F := Ideal) (φ := .f32) .gt) x b i ⟨t, ht⟩ = Spec.nearest d t := by
  have e : Fin.ofNat 4096 t = ⟨t, ht⟩ := Fin.ext (Nat.mod_eq_of_lt ht)
  unfold place Spec.nearest Order.near
  rw [e]
  congr 1
  funext j j'
  rw [h, h]
  show (BitVec.ofBool (decide (((-d j' : ℝ) : EReal) < ((-d j : ℝ) : EReal))) == 1#1) = decide (d j < d j')
  rw [decide_eq_decide.mpr (EReal.coe_lt_coe_iff.trans neg_lt_neg_iff)]
  by_cases hd : d j < d j'
  · rw [decide_eq_true hd]; rfl
  · rw [decide_eq_false hd]; rfl

section take
variable {α : Type} {K : Nat}

/-- The shape of the points, of the positions, and of the points taken. -/
abbrev Points : Shape := ⟨3, ![4, 4096, 3]⟩
abbrev Positions (K : Nat) : Shape := ⟨4, ![4, 4096, K, 1]⟩
abbrev Taken (K : Nat) : Shape := ⟨4, ![4, 4096, K, 3]⟩

/-- The take of points, batch by batch. -/
abbrev takes (K : Nat) (wf : GatherDims.WF Points (Positions K) (Taken K) [3] [1] [0] [1] [0] 3 ![1, 1, 3]) :
    GatherDims Points (Positions K) (Taken K) where
  offsetDims := [3]
  collapsedSliceDims := [1]
  operandBatchingDims := [0]
  startIndicesBatchingDims := [0]
  startIndexMap := [1]
  indexVectorDim := 3
  sliceSizes := ![1, 1, 3]
  wf := wf

/-- A take reads the point at the position it is given, when that is a column number. -/
theorem take_read (wf : GatherDims.WF Points (Positions K) (Taken K) [3] [1] [0] [1] [0] 3 ![1, 1, 3])
    (x : Points.Idx → α) (idx : IVec (Positions K) 32) (b : Fin 4) (i : Fin 4096) (k : Fin K) (c : Fin 3) (j : Fin 4096)
    (h : idx (ix4 b i k 0) = BitVec.ofNat 32 j.val) : Host.gather (takes K wf) x idx (ix4 b i k c) = x (ix3 b j c) := by
  unfold Host.gather
  congr 1
  funext a
  refine Fin.ext ?_
  show (takes K wf).start (ix4 b i k c) idx a + (takes K wf).batchCoord (ix4 b i k c) a
      + (takes K wf).offCoord (ix4 b i k c) a = _
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takes K wf).startIndexMap from List.mem_singleton.mpr rfl)]
    have hsi : (takes K wf).siIdx (ix4 b i k c) ⟨List.idxOf (1 : Fin 3) (takes K wf).startIndexMap,
        List.idxOf_lt_length_iff.2 (List.mem_singleton.mpr rfl)⟩ = ix4 b i k 0 := by
      funext e; refine Fin.ext ?_
      match e with
      | ⟨0, _⟩ => rfl
      | ⟨1, _⟩ => rfl
      | ⟨2, _⟩ => rfl
      | ⟨3, _⟩ => rfl
    rw [hsi, h]
    have hj := j.isLt
    have hi : (BitVec.ofNat 32 j.val).toInt = j.val := by
      rw [BitVec.toInt_ofNat', Int.bmod_eq_of_le] <;> omega
    rw [hi]
    show min j.val (4096 - 1) = j.val
    omega
  · rw [GatherDims.batchCoord_eq_zero _ _ _ (fun h => by simp at h)]
    unfold GatherDims.start GatherDims.offCoord
    rw [dif_neg (fun h => by simp at h), dif_pos ((GatherDims.mem_sKept _ _).mpr ⟨fun h => by simp at h, fun h => by simp at h⟩)]
    simp only [Nat.zero_add]
    rfl

end take

end Cert.Pick
-- ==== Proof.RefReads.lean ====
module

public import proofs.«01_k».proof.Proof.RefStages
public import proofs.«01_k».proof.Proof.Pick
public import Idealize.ShloMosaic.Lib.WordCmp

/-! # The reference's stages read at one index

Over the extended reals, each stage's element from its operands' elements. -/

@[expose] public section

set_option maxRecDepth 16384

noncomputable section

namespace Cert.ReferenceIdeal.RefReads

open Cert.ReferenceIdeal Cert.ReferenceIdeal.Gen Cert.ReferenceIdeal.Read Idealize.ShloMosaic RefStages

variable (x0 x1 x2 q r : FVec Ideal S4x4096x3 .f32) (d : FVec Ideal S4x4096x4096 .f32)
variable (b : Fin 4) (i j : Fin 4096) (c : Fin 3)

/-! ## The clouds, transposed twice -/

theorem target_read : val_main_v4 (F := Ideal) x1 (ix3 b i c) = x1 (ix3 b i c) := by
  pointwise [val_main_v4, val_main_v1]

theorem target_read' : val_main_v72 (F := Ideal) x1 (ix3 b i c) = x1 (ix3 b i c) := by
  pointwise [val_main_v72, val_main_v1]

theorem source_read : val_main_v38 (F := Ideal) x0 (ix3 b i c) = x0 (ix3 b i c) := by
  pointwise [val_main_v38, val_main_v0]

theorem moved_read : val_main_v37 (F := Ideal) x0 x2 (ix3 b i c) = (x0 (ix3 b i c) : EReal) + x2 (ix3 b i c) := by
  pointwise [val_main_v37, val_main_v3, val_main_v0, val_main_v2]

theorem moved_read' : val_main_v71 (F := Ideal) x0 x2 (ix3 b i c) = (x0 (ix3 b i c) : EReal) + x2 (ix3 b i c) := by
  pointwise [val_main_v71, val_main_v3, val_main_v0, val_main_v2]

/-! ## Distances -/

theorem pairs_read : pairs q r (ix3 b i j) =
    (∑ x : Fin 3, (q (ix3 b i x) : EReal) * q (ix3 b i x)) + (∑ x : Fin 3, (r (ix3 b j x) : EReal) * r (ix3 b j x))
      - Ideal.ofBits .f32 0x40000000#32 * ∑ x : Fin 3, (q (ix3 b i x) : EReal) * r (ix3 b j x) := by
  pointwise [pairs, lengths]

theorem negated_read : Host.negf d (ix3 b i j) = -(d (ix3 b i j) : EReal) := by
  pointwise

/-! ## Ten neighbours -/

section ten
variable (n : FVec Ideal S4x4096x10 .f32) (p : IVec S4x4096x10 32) (g : FVec Ideal S4x4096x10x3 .f32) (k : Fin 10)

theorem index10_read : index10 n p (ix3 b i k) =
    if Ideal.ofBits .f32 0x40200000#32 < -(n (ix3 b i k) : EReal) then p (ix3 b i 0) else p (ix3 b i k) := by
  pointwise [index10]

theorem wrap10_read : wrap10 p (ix3 b i k) =
    Scalar.select (IntOp.cmpi .slt (p (ix3 b i k)) 0#32) (IntOp.addi (p (ix3 b i k)) 4096#32) (p (ix3 b i k)) := by
  pointwise [wrap10]

theorem positions10_read :
    broadcastInDim S4x4096x10x1 ![0, 1, 2] bcast_S4x4096x10_S4x4096x10x1_0_1_2 p (ix4 b i k 0) = p (ix3 b i k) := by
  pointwise

theorem bend_read : bend g q (ix3 b i c) =
    Ideal.div (∑ x : Fin 10, ((g (ix4 b i x c) : EReal) - q (ix3 b i c))) (Ideal.ofBits .f32 0x41100000#32) := by
  pointwise [bend]

end ten

/-! ## Five neighbours -/

section five
variable (n : FVec Ideal S4x4096x5 .f32) (p : IVec S4x4096x5 32) (g : FVec Ideal S4x4096x5x3 .f32) (k : Fin 5)

theorem index5_read : index5 n p (ix3 b i k) =
    if Ideal.ofBits .f32 0x40200000#32 < -(n (ix3 b i k) : EReal) then p (ix3 b i 0) else p (ix3 b i k) := by
  pointwise [index5]

theorem wrap5_read : wrap5 p (ix3 b i k) =
    Scalar.select (IntOp.cmpi .slt (p (ix3 b i k)) 0#32) (IntOp.addi (p (ix3 b i k)) 4096#32) (p (ix3 b i k)) := by
  pointwise [wrap5]

theorem positions5_read :
    broadcastInDim S4x4096x5x1 ![0, 1, 2] bcast_S4x4096x5_S4x4096x5x1_0_1_2 p (ix4 b i k 0) = p (ix3 b i k) := by
  pointwise

theorem inverses_read : inverses n (ix3 b i k) =
    Ideal.div 1 (-(n (ix3 b i k) : EReal) + Ideal.ofBits .f32 0x322BCC77#32) := by
  pointwise [inverses]

theorem shares_read : shares n (ix3 b i k) = Ideal.div (n (ix3 b i k)) (∑ x : Fin 5, (n (ix3 b i x) : EReal)) := by
  pointwise [shares]

theorem mixed_read : mixed n g (ix3 b i c) = ∑ x : Fin 5, (n (ix3 b i x) : EReal) * g (ix4 b i x c) := by
  pointwise [mixed]

end five

theorem mean_read (x : S_.Idx) : mean q x =
    Ideal.div (∑ b : Fin 4, ∑ i : Fin 4096, ∑ c : Fin 3, (q (ix3 b i c) : EReal) * q (ix3 b i c))
      (Ideal.ofBits .f32 0x40800000#32) := by
  pointwise [mean]

/-- A column number below zero is none: the wrap leaves it. -/
theorem wrap_column (j : Fin 4096) :
    Scalar.select (IntOp.cmpi .slt (BitVec.ofNat 32 j.val) 0#32) (IntOp.addi (BitVec.ofNat 32 j.val) 4096#32)
      (BitVec.ofNat 32 j.val) = BitVec.ofNat 32 j.val := by
  have hj := j.isLt
  have hi : (BitVec.ofNat 32 j.val).toInt = j.val := by
    rw [BitVec.toInt_ofNat', Int.bmod_eq_of_le] <;> omega
  have h0 : (0#32).toInt = 0 := by decide
  rw [WordCmp.cmpi_slt_eq, decide_eq_false (by rw [hi, h0]; omega)]
  rfl

end Cert.ReferenceIdeal.RefReads
-- ==== Proof.RefValues.lean ====
module

public import proofs.«01_k».proof.Proof.RefReads

/-! # What the reference computes, in real numbers -/

@[expose] public section

set_option maxRecDepth 16384

noncomputable section

namespace Cert.ReferenceIdeal.RefValues

open Cert.ReferenceIdeal Cert.ReferenceIdeal.Gen Cert.ReferenceIdeal.Read Idealize.ShloMosaic RefStages RefReads
open Constants Spec

/-- The array holds the real numbers `a`. -/
def Holds (A : FVec Ideal S4x4096x3 .f32) (a : Fin 4 → Cloud) : Prop :=
  ∀ b i k, A (ix3 b i k) = ((a b i k : ℝ) : EReal)

/-- The distances hold the real numbers `d`. -/
def HoldsPairs (D : FVec Ideal S4x4096x4096 .f32) (d : Fin 4 → Fin 4096 → Fin 4096 → ℝ) : Prop :=
  ∀ b i j, D (ix3 b i j) = ((d b i j : ℝ) : EReal)

/-- The distances are the squared distances. -/
theorem pairs_holds {Q R : FVec Ideal S4x4096x3 .f32} {q r : Fin 4 → Cloud} (hq : Holds Q q) (hr : Holds R r) :
    HoldsPairs (pairs Q R) fun b i => row (q b i) (r b) := fun b i j => by
  rw [pairs_read]
  simp only [hq b, hr b, two_word, ← EReal.coe_mul, sum_real, ← EReal.coe_add, ← EReal.coe_sub]
  congr 1
  simp only [row, Fin.sum_univ_three]
  ring

section neighbours
variable {D : FVec Ideal S4x4096x4096 .f32} {d : Fin 4 → Fin 4096 → Fin 4096 → ℝ} (h : HoldsPairs D d)
  (b : Fin 4) (i : Fin 4096)

include h

theorem negated_holds (j : Fin 4096) : Host.negf D (ix3 b i j) = ((-d b i j : ℝ) : EReal) := by
  rw [negated_read, h, ← EReal.coe_neg]

theorem top10_value (k : Fin 10) : (top10 D).1 (ix3 b i k) = ((-d b i (nearest (d b i) k.val) : ℝ) : EReal) := by
  have hk : k.val < 4096 := by omega
  refine (Pick.topK_value _ _ sliceFits_S4x4096x4096_S4x4096x10 b i k hk).trans ?_
  rw [Pick.place_nearest _ b i (d b i) (negated_holds h b i)]
  exact negated_holds h b i _

theorem top10_position (k : Fin 10) : (top10 D).2 (ix3 b i k) = BitVec.ofNat 32 (nearest (d b i) k.val).val := by
  have hk : k.val < 4096 := by omega
  refine (Pick.topK_position _ _ sliceFits_S4x4096x4096_S4x4096x10 b i k hk).trans ?_
  rw [Pick.place_nearest _ b i (d b i) (negated_holds h b i)]

theorem top5_value (k : Fin 5) : (top5 D).1 (ix3 b i k) = ((-d b i (nearest (d b i) k.val) : ℝ) : EReal) := by
  have hk : k.val < 4096 := by omega
  refine (Pick.topK_value _ _ sliceFits_S4x4096x4096_S4x4096x5 b i k hk).trans ?_
  rw [Pick.place_nearest _ b i (d b i) (negated_holds h b i)]
  exact negated_holds h b i _

theorem top5_position (k : Fin 5) : (top5 D).2 (ix3 b i k) = BitVec.ofNat 32 (nearest (d b i) k.val).val := by
  have hk : k.val < 4096 := by omega
  refine (Pick.topK_position _ _ sliceFits_S4x4096x4096_S4x4096x5 b i k hk).trans ?_
  rw [Pick.place_nearest _ b i (d b i) (negated_holds h b i)]

omit h in
/-- The choice between the `t`-th nearest and the nearest point. -/
theorem choice (e : Fin 4096 → ℝ) (t : Nat) :
    (if Ideal.ofBits .f32 0x40200000#32 < -((-e (nearest e t) : ℝ) : EReal) then BitVec.ofNat 32 (nearest e 0).val
      else BitVec.ofNat 32 (nearest e t).val) = BitVec.ofNat 32 (pick e t).val := by
  rw [radius_word, ← EReal.coe_neg, neg_neg, pick]
  by_cases he : e (nearest e t) ≤ 5 / 2
  · rw [if_pos he, if_neg (not_lt.mpr (EReal.coe_le_coe_iff.mpr he))]
  · rw [if_neg he, if_pos (EReal.coe_lt_coe_iff.mpr (not_le.mp he))]

theorem index10_eq (k : Fin 10) :
    index10 (top10 D).1 (top10 D).2 (ix3 b i k) = BitVec.ofNat 32 (pick (d b i) k.val).val := by
  rw [index10_read, top10_value h, top10_position h, top10_position h]
  exact choice (d b i) k.val

theorem index5_eq (k : Fin 5) :
    index5 (top5 D).1 (top5 D).2 (ix3 b i k) = BitVec.ofNat 32 (pick (d b i) k.val).val := by
  rw [index5_read, top5_value h, top5_position h, top5_position h]
  exact choice (d b i) k.val

/-- The ten taken points. -/
theorem take10_eq (X : FVec Ideal S4x4096x3 .f32) (k : Fin 10) (c : Fin 3) :
    take10 X (wrap10 (index10 (top10 D).1 (top10 D).2)) (ix4 b i k c) = X (ix3 b (pick (d b i) k.val) c) := by
  refine Pick.take_read gather_S4x4096x3_S4x4096x10x1_S4x4096x10x3_3_1_0_0_1_3_113_wf X _ b i k c _ ?_
  rw [positions10_read, wrap10_read, index10_eq h, wrap_column]

/-- The five taken points. -/
theorem take5_eq (X : FVec Ideal S4x4096x3 .f32) (k : Fin 5) (c : Fin 3) :
    take5 X (wrap5 (index5 (top5 D).1 (top5 D).2)) (ix4 b i k c) = X (ix3 b (pick (d b i) k.val) c) := by
  refine Pick.take_read gather_S4x4096x3_S4x4096x5x1_S4x4096x5x3_3_1_0_0_1_3_113_wf X _ b i k c _ ?_
  rw [positions5_read, wrap5_read, index5_eq h, wrap_column]

/-- The curvature. -/
theorem bend10_holds {X : FVec Ideal S4x4096x3 .f32} {x : Fin 4 → Cloud} (hx : Holds X x) :
    Holds (bend10 D X) fun b i c => curv (d b i) (fun j => x b j c) (x b i c) := fun b i c => by
  rw [bend10, bend_read]
  simp only [take10_eq h, hx b, ← EReal.coe_sub, sum_real, nine_word]
  rw [div_real _ _ (by norm_num), curv, Finset.sum_range]
  simp only [Finset.sum_sub_distrib, Finset.sum_const, Finset.card_univ, Fintype.card_fin, nsmul_eq_mul, Nat.cast_ofNat]

/-- The interpolation. -/
theorem mixed5_holds (h0 : ∀ b i j, 0 ≤ d b i j) {X : FVec Ideal S4x4096x3 .f32} {x : Fin 4 → Cloud} (hx : Holds X x) :
    Holds (mixed5 D X) fun b i c => mix (d b i) fun j => x b j c := fun b i c => by
  have hi : ∀ k : Fin 5, inverses (top5 D).1 (ix3 b i k) = ((inv (d b i) k.val : ℝ) : EReal) := fun k => by
    rw [inverses_read, top5_value h, eps_word, ← EReal.coe_neg, neg_neg, ← EReal.coe_add, ← EReal.coe_one,
      div_real _ _ (add_pos_of_nonneg_of_pos (h0 _ _ _) eps_pos).ne', Spec.inv]
  have hs : (∑ k : Fin 5, inv (d b i) k.val) = ∑ t ∈ Finset.range 5, inv (d b i) t := (Finset.sum_range _).symm
  have hp := sum_inv_pos (h0 b i)
  have hn : ∀ k : Fin 5, shares (inverses (top5 D).1) (ix3 b i k) =
      ((inv (d b i) k.val / ∑ t ∈ Finset.range 5, inv (d b i) t : ℝ) : EReal) := fun k => by
    rw [shares_read]
    simp only [hi, sum_real]
    rw [hs, div_real _ _ hp.ne']
  rw [mixed5, mixed_read]
  simp only [hn, take5_eq h, hx b, ← EReal.coe_mul, sum_real]
  congr 1
  simp only [mix, Finset.sum_range, Finset.sum_div]
  exact Finset.sum_congr rfl fun k _ => by ring

end neighbours

/-- The reference's result is the loss of the specification. -/
theorem result_eq {X0 X1 X2 : FVec Ideal S4x4096x3 .f32} {pt ps wp : Fin 4 → Cloud} (ht : Holds X1 pt) (hs : Holds X0 ps)
    (hw : ∀ b i k, (X0 (ix3 b i k) : EReal) + X2 (ix3 b i k) = ((wp b i k : ℝ) : EReal)) :
    val_main_v120 (F := Ideal) X0 X1 X2 = fun _ => ((loss pt ps wp : ℝ) : EReal) := by
  have t4 : Holds (val_main_v4 (F := Ideal) X1) pt := fun b i k => (target_read X1 b i k).trans (ht b i k)
  have t72 : Holds (val_main_v72 (F := Ideal) X1) pt := fun b i k => (target_read' X1 b i k).trans (ht b i k)
  have s38 : Holds (val_main_v38 (F := Ideal) X0) ps := fun b i k => (source_read X0 b i k).trans (hs b i k)
  have m37 : Holds (val_main_v37 (F := Ideal) X0 X2) wp := fun b i k => (moved_read X0 X2 b i k).trans (hw b i k)
  have m71 : Holds (val_main_v71 (F := Ideal) X0 X2) wp := fun b i k => (moved_read' X0 X2 b i k).trans (hw b i k)
  have c36 : Holds (val_main_v36 (F := Ideal) X1) fun b => curvTarget (pt b) := bend10_holds (pairs_holds t4 t4) t4
  have c70 : Holds (val_main_v70 (F := Ideal) X0 X2) fun b => curvMoved (ps b) (wp b) := bend10_holds (pairs_holds s38 s38) m37
  have n114 : Holds (val_main_v114 (F := Ideal) X0 X1 X2) fun b i c => mix (row (wp b i) (pt b)) fun j => curvTarget (pt b) j c :=
    mixed5_holds (pairs_holds m71 t72) (fun b i j => row_nonneg _ _ _) c36
  have e : ∀ b i c, (subf (val_main_v114 (F := Ideal) X0 X1 X2) (val_main_v70 (F := Ideal) X0 X2) : FVec Ideal S4x4096x3 .f32) (ix3 b i c) =
      ((mix (row (wp b i) (pt b)) (fun j => curvTarget (pt b) j c) - curvMoved (ps b) (wp b) i c : ℝ) : EReal) := fun b i c => by
    rw [EReal.coe_sub, ← n114 b i c, ← c70 b i c]
    rfl
  funext x
  rw [loss_stage, mean_read]
  simp only [e, ← EReal.coe_mul, sum_real, four_word]
  rw [div_real _ _ (by norm_num), loss]
  simp only [pointLoss, sq]

end Cert.ReferenceIdeal.RefValues
-- ==== Proof.Moderate.lean ====
module

public import proofs.«01_k».proof.Pre_moderate
public import proofs.«01_k».proof.Proof.Arrays

/-! # The precondition in real numbers

An extended real whose size is at most a real bound is a real number of that size. So moderate arguments are clouds of
real numbers, and the moved cloud is one of at most twice the bound. -/

@[expose] public section

set_option maxRecDepth 16384

noncomputable section

namespace Cert.Moderate

open Idealize.ShloMosaic Constants Spec Cert.KernelIdeal.Arrays

/-- The predicate's shape facts. -/
theorem facts : Cert.Pre_moderate.Facts where
  bcast_S_S4x4096x3 := by decide

/-- Three conditions joined bit by bit hold each. -/
theorem joined (p q r : Prop) [Decidable p] [Decidable q] [Decidable r]
    (h : IntOp.andi (IntOp.andi (BitVec.ofBool (decide p)) (BitVec.ofBool (decide q))) (BitVec.ofBool (decide r)) = 1#1) :
    p ∧ q ∧ r := by
  by_cases hp : p <;> by_cases hq : q <;> by_cases hr : r <;> simp_all [IntOp.andi]

/-- A size at most the bound: a real number. -/
theorem real_of_size (x : EReal) (h : FloatOps.absf (F := Ideal) (φ := .f32) x ≤ Ideal.ofBits .f32 0x56B5E621#32) :
    ∃ a : ℝ, x = (a : EReal) ∧ |a| ≤ limit := by
  have h' : max x (-x) ≤ ((limit : ℝ) : EReal) := limit_word ▸ h
  induction x with
  | bot => simp at h'
  | top => simp at h'
  | coe a =>
    refine ⟨a, rfl, ?_⟩
    rw [← EReal.coe_neg, max_le_iff, EReal.coe_le_coe_iff, EReal.coe_le_coe_iff] at h'
    exact abs_le'.mpr h'

variable [Cert.Pre_moderate.Facts] {x y z : FVec Ideal Cert.Pre_moderate.S4x4096x3 .f32}

/-- The predicate at one index: three sizes. -/
theorem sizes (h : Cert.Pre_moderate.fn x y z = fun _ => 1#1) (b : Fin 4) (i : Fin 4096) (k : Fin 3) :
    (FloatOps.absf (F := Ideal) (φ := .f32) (x (ix3 b i k)) : EReal) ≤ Ideal.ofBits .f32 0x56B5E621#32
    ∧ (FloatOps.absf (F := Ideal) (φ := .f32) (y (ix3 b i k)) : EReal) ≤ Ideal.ofBits .f32 0x56B5E621#32
    ∧ (FloatOps.absf (F := Ideal) (φ := .f32) (z (ix3 b i k)) : EReal) ≤ Ideal.ofBits .f32 0x56B5E621#32 := by
  refine joined _ _ _ (Eq.trans (Eq.symm ?_) (congrFun h (ix3 b i k)))
  pointwise [Cert.Pre_moderate.fn]

/-- Moderate arguments are clouds of real numbers: the source, the target and the moved source. -/
theorem clouds (h : Cert.Pre_moderate.fn x y z = fun _ => 1#1) :
    ∃ ps pt wp : Fin 4 → Cloud, Clouds x ps ∧ Clouds y pt ∧ Clouds (addf x z) wp := by
  have hs := fun b i k => real_of_size _ (sizes h b i k).1
  have ht := fun b i k => real_of_size _ (sizes h b i k).2.1
  have hf := fun b i k => real_of_size _ (sizes h b i k).2.2
  choose ps hs hs' using hs
  choose pt ht ht' using ht
  choose pf hf hf' using hf
  have hl : (0 : ℝ) ≤ limit := by unfold limit; positivity
  refine ⟨ps, pt, fun b i k => ps b i k + pf b i k, ⟨hs, fun b i k => ?_⟩, ⟨ht, fun b i k => ?_⟩, ⟨fun b i k => ?_, fun b i k => ?_⟩⟩
  · linarith [hs' b i k]
  · linarith [ht' b i k]
  · rw [EReal.coe_add, ← hs, ← hf]
    rfl
  · linarith [abs_add_le (ps b i k) (pf b i k), hs' b i k, hf' b i k]

end Cert.Moderate
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Total
public import proofs.«01_k».proof.Proof.RefValues
public import proofs.«01_k».proof.Proof.Moderate
public import Idealize.ShloMosaic.Lib.Claim
public import Idealize.ShloMosaic.Adequacy
public import Idealize.ShloMosaic.Init

/-! # The claims

The frames are the generated runs. The value claim joins the kernel's run and the reference's: at moderate arguments both
leave the loss of `Cert.Spec`. -/

@[expose] public section

set_option maxRecDepth 16384

noncomputable section

namespace Cert.Proof

open Idealize.ShloMosaic Idealize.SL.Sem

/-- The kernel runs, leaves its arguments and ends with every counter at zero. -/
theorem frame_kernel : Cert.quiescent_Kernel := fun m g _ => Cert.Kernel.Gen.frame m g

/-- So does its ideal reading, -/
theorem frame_ideal : Cert.quiescent_KernelIdeal := fun m g _ => Cert.KernelIdeal.Gen.frame m g

/-- and so does the reference, which has no counter. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The reference's result over its own arguments. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v120)
          = Cert.ReferenceIdeal.Read.val_main_v120 (F := Ideal)
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2)) :=
  (θ_run _ _ _).mono (fun _ h c => ⟨(h c).1.trans (Cert.ReferenceIdeal.Read.val_main_v120_eq (StableHlo.launchContents m c)),
    (h c).2⟩) (Cert.ReferenceIdeal.Value.run m g)

/-- At moderate arguments the ideal kernel and the reference end with equal results. -/
theorem algebraic : Cert.algebraic_KernelIdeal_ReferenceIdeal_pre_moderate (hPre_moderate := Cert.Moderate.facts) := by
  intro m g m' g' hpre hagree
  refine ⟨fun c => Cert.KernelIdeal.Gen.W4 m g c (Proc.devRef .tc Cert.KernelIdeal.main_v0), Cert.KernelIdeal.KernelRun.run m g, ?_⟩
  refine (θ_run _ _ _).mono (fun r h c => ⟨(h c).1.trans ?_, (h c).2⟩) (reference_run m' g')
  obtain ⟨ps, pt, wp, hs, ht, hw⟩ := @Cert.Moderate.clouds Cert.Moderate.facts _ _ _ (hpre c)
  rw [(hagree c).1, (hagree c).2.1, (hagree c).2.2]
  exact (Cert.ReferenceIdeal.RefValues.result_eq ht.read hs.read hw.read).trans
    (Cert.KernelIdeal.Total.result_eq m g c ht hs hw).symm

theorem claim : Cert.Claim :=
  ⟨Cert.Kernel.Gen.facts, Cert.KernelIdeal.Gen.facts, Cert.ReferenceIdeal.Gen.facts, Cert.Moderate.facts,
    frame_kernel, frame_ideal, fun m g _ => Cert.KernelIdeal.Gen.frame m g,
    frame_reference, fun m g _ => frame_reference m g trivial, trivial, algebraic⟩

end Cert.Proof

end
